-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S32768x768 : Shape := ⟨2, ![32768, 768]⟩
abbrev S768x384 : Shape := ⟨2, ![768, 384]⟩
abbrev S384 : Shape := ⟨1, ![384]⟩
abbrev S384x64 : Shape := ⟨2, ![384, 64]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S768x384 : S_.BroadcastsInDim S768x384 (![] : Fin 0 → Fin S768x384.rank)
  reducesTo_S768x384_S_d0_1 : S768x384.ReducesTo [0, 1] S_
  bcast_S_S384 : S_.BroadcastsInDim S384 (![] : Fin 0 → Fin S384.rank)
  reducesTo_S384_S_d0 : S384.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S384x64 1) : IVec S_ 1 :=
  let main_c_5 : IVec S_ 1 := constantI S_ 1 1#1
  let main_v17 : IVec S_ 1 := (fun x v => Host.reduce IntOp.andi x v reducesTo_S384x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32768x768 .f32) (main_arg1 : FVec F S768x384 .f32) (main_arg2 : FVec F S384 .f32) (main_arg3 : FVec F S384x64 .f32) (main_arg4 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S768x384 .f32 := Host.absf main_arg1
  let main_cst_0 : FVec F S_ .f32 := constant S_ .f32 0x7F800000#32
  let main_v5 : FVec F S768x384 .f32 := broadcastInDim S768x384 ![] bcast_S_S768x384 main_cst_0
  let main_v6 : IVec S768x384 1 := cmpf .olt main_v4 main_v5
  let main_c_1 : IVec S_ 1 := constantI S_ 1 1#1
  let main_v7 : IVec S_ 1 := (fun x v => Host.reduce IntOp.andi x v reducesTo_S768x384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x64 .f32 := Host.absf main_arg3
  let main_cst_4 : FVec F S_ .f32 := constant S_ .f32 0x7F800000#32
  let main_v15 : FVec F S384x64 .f32 := broadcastInDim S384x64 ![] bcast_S_S384x64 main_cst_4
  let main_v16 : IVec S384x64 1 := cmpf .olt main_v14 main_v15
  fn_part1 (F := F) main_arg4 main_v13 main_v16
-- ==== Kernel.lean ====
abbrev S32768x768 : Shape := ⟨2, ![32768, 768]⟩
abbrev S768x384 : Shape := ⟨2, ![768, 384]⟩
abbrev S384 : Shape := ⟨1, ![384]⟩
abbrev S384x64 : Shape := ⟨2, ![384, 64]⟩
abbrev S64 : Shape := ⟨1, ![64]⟩
abbrev S1x384 : Shape := ⟨2, ![1, 384]⟩
abbrev S64x1 : Shape := ⟨2, ![64, 1]⟩
abbrev S2x32768 : Shape := ⟨2, ![2, 32768]⟩
abbrev S1x1 : Shape := ⟨2, ![1, 1]⟩
abbrev S32768x2 : Shape := ⟨2, ![32768, 2]⟩
abbrev S_ : Shape := ⟨0, ![]⟩
abbrev S4096x768 : Shape := ⟨2, ![4096, 768]⟩
abbrev S2x4096 : Shape := ⟨2, ![2, 4096]⟩
abbrev S1024x768 : Shape := ⟨2, ![1024, 768]⟩
abbrev S1024x384 : Shape := ⟨2, ![1024, 384]⟩
abbrev S64x1024 : Shape := ⟨2, ![64, 1024]⟩
abbrev S1024 : Shape := ⟨1, ![1024]⟩
abbrev S1x1024 : Shape := ⟨2, ![1, 1024]⟩
abbrev S2x1024 : Shape := ⟨2, ![2, 1024]⟩
abbrev S1x64x1 : Shape := ⟨3, ![1, 64, 1]⟩
abbrev S1 : Shape := ⟨1, ![1]⟩
abbrev S1x1x1 : Shape := ⟨3, ![1, 1, 1]⟩

abbrev nBuf : Space → Nat
  | .hbm => 13
  | .vmem => 13
  | .smem => 0
  | _ => 0

abbrev bufTy : (tb : Table) → Fin (tcTables nBuf tb) → BufTy
  | .hbm, ⟨0, _⟩ => ⟨S32768x768, .f32⟩
  | .hbm, ⟨1, _⟩ => ⟨S768x384, .f32⟩
  | .hbm, ⟨2, _⟩ => ⟨S384, .f32⟩
  | .hbm, ⟨3, _⟩ => ⟨S384x64, .f32⟩
  | .hbm, ⟨4, _⟩ => ⟨S64, .f32⟩
  | .hbm, ⟨5, _⟩ => ⟨S1x384, .f32⟩
  | .hbm, ⟨6, _⟩ => ⟨S64x1, .f32⟩
  | .hbm, ⟨7, _⟩ => ⟨S2x32768, .f32⟩
  | .hbm, ⟨8, _⟩ => ⟨S2x32768, .i32⟩
  | .hbm, ⟨9, _⟩ => ⟨S1x1, .f32⟩
  | .hbm, ⟨10, _⟩ => ⟨S32768x2, .f32⟩
  | .hbm, ⟨11, _⟩ => ⟨S32768x2, .i32⟩
  | .hbm, ⟨12, _⟩ => ⟨S_, .f32⟩
  | .local _ .vmem, ⟨0, _⟩ => ⟨S4096x768, .f32⟩
  | .local _ .vmem, ⟨1, _⟩ => ⟨S4096x768, .f32⟩
  | .local _ .vmem, ⟨2, _⟩ => ⟨S768x384, .f32⟩
  | .local _ .vmem, ⟨3, _⟩ => ⟨S1x384, .f32⟩
  | .local _ .vmem, ⟨4, _⟩ => ⟨S384x64, .f32⟩
  | .local _ .vmem, ⟨5, _⟩ => ⟨S64x1, .f32⟩
  | .local _ .vmem, ⟨6, _⟩ => ⟨S2x4096, .f32⟩
  | .local _ .vmem, ⟨7, _⟩ => ⟨S2x4096, .f32⟩
  | .local _ .vmem, ⟨8, _⟩ => ⟨S2x4096, .i32⟩
  | .local _ .vmem, ⟨9, _⟩ => ⟨S2x4096, .i32⟩
  | .local _ .vmem, ⟨10, _⟩ => ⟨S1x1, .f32⟩
  | .local _ .vmem, ⟨11, _⟩ => ⟨S64x1, .f32⟩
  | .local _ .vmem, ⟨12, _⟩ => ⟨S64x1, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2_0 : Ref sig .tc := ⟨.hbm, 7, rfl⟩
abbrev main_call0_v2_1 : Ref sig .tc := ⟨.hbm, 8, rfl⟩
abbrev main_call0_v2_2 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v289 : BitVec 1 := Scalar.cmpi .eq arg0 c7_i32
  let v290 : BitVec 32 := Scalar.extui v289
  let c0_i32_117 : BitVec 32 := 0#32
  let v291 : BitVec 1 := Scalar.cmpi .ne v290 c0_i32_117
  v291

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4096 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S32768x768 : Shape := ⟨2, ![32768, 768]⟩
abbrev S768x384 : Shape := ⟨2, ![768, 384]⟩
abbrev S384 : Shape := ⟨1, ![384]⟩
abbrev S384x64 : Shape := ⟨2, ![384, 64]⟩
abbrev S64 : Shape := ⟨1, ![64]⟩
abbrev S32768x384 : Shape := ⟨2, ![32768, 384]⟩
abbrev S1x384 : Shape := ⟨2, ![1, 384]⟩
abbrev S_ : Shape := ⟨0, ![]⟩
abbrev S32768x64 : Shape := ⟨2, ![32768, 64]⟩
abbrev S1x64 : Shape := ⟨2, ![1, 64]⟩
abbrev S32768x2 : Shape := ⟨2, ![32768, 2]⟩
abbrev S32768 : Shape := ⟨1, ![32768]⟩
abbrev S32768x1 : Shape := ⟨2, ![32768, 1]⟩

abbrev nBuf : Space → Nat
  | .hbm => 78
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S768x384, .f32⟩
  | .hbm, ⟨2, _⟩ => ⟨S384, .f32⟩
  | .hbm, ⟨3, _⟩ => ⟨S384x64, .f32⟩
  | .hbm, ⟨4, _⟩ => ⟨S64, .f32⟩
  | .hbm, ⟨5, _⟩ => ⟨S32768x384, .f32⟩
  | .hbm, ⟨6, _⟩ => ⟨S1x384, .f32⟩
  | .hbm, ⟨7, _⟩ => ⟨S32768x384, .f32⟩
  | .hbm, ⟨8, _⟩ => ⟨S32768x384, .f32⟩
  | .hbm, ⟨9, _⟩ => ⟨S32768x384, .f32⟩
  | .hbm, ⟨10, _⟩ => ⟨S32768x384, .f32⟩
  | .hbm, ⟨11, _⟩ => ⟨S_, .f32⟩
  | .hbm, ⟨12, _⟩ => ⟨S32768x384, .f32⟩
  | .hbm, ⟨13, _⟩ => ⟨S32768x384, .f32⟩
  | .hbm, ⟨14, _⟩ => ⟨S_, .f32⟩
  | .hbm, ⟨15, _⟩ => ⟨S32768x384, .f32⟩
  | .hbm, ⟨16, _⟩ => ⟨S32768x384, .f32⟩
  | .hbm, ⟨17, _⟩ => ⟨S32768x384, .f32⟩
  | .hbm, ⟨18, _⟩ => ⟨S32768x64, .f32⟩
  | .hbm, ⟨19, _⟩ => ⟨S1x64, .f32⟩
  | .hbm, ⟨20, _⟩ => ⟨S32768x64, .f32⟩
  | .hbm, ⟨21, _⟩ => ⟨S32768x64, .f32⟩
  | .hbm, ⟨22, _⟩ => ⟨S32768x2, .f32⟩
  | .hbm, ⟨23, _⟩ => ⟨S32768x2, .i32⟩
  | .hbm, ⟨24, _⟩ => ⟨S_, .f32⟩
  | .hbm, ⟨25, _⟩ => ⟨S32768, .f32⟩
  | .hbm, ⟨26, _⟩ => ⟨S_, .f32⟩
  | .hbm, ⟨27, _⟩ => ⟨S32768, .f32⟩
  | .hbm, ⟨28, _⟩ => ⟨S32768, .f32⟩
  | .hbm, ⟨29, _⟩ => ⟨S32768x1, .f32⟩
  | .hbm, ⟨30, _⟩ => ⟨S32768x2, .f32⟩
  | .hbm, ⟨31, _⟩ => ⟨S32768x2, .f32⟩
  | .hbm, ⟨32, _⟩ => ⟨S32768x2, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S32768x2, .f32⟩
  | .hbm, ⟨37, _⟩ => ⟨S32768x2, .f32⟩
  | .hbm, ⟨38, _⟩ => ⟨S_, .f32⟩
  | .hbm, ⟨39, _⟩ => ⟨S32768, .f32⟩
  | .hbm, ⟨40, _⟩ => ⟨S_, .f32⟩
  | .hbm, ⟨41, _⟩ => ⟨S32768, .f32⟩
  | .hbm, ⟨42, _⟩ => ⟨S32768, .f32⟩
  | .hbm, ⟨43, _⟩ => ⟨S32768x1, .f32⟩
  | .hbm, ⟨44, _⟩ => ⟨S32768x64, .f32⟩
  | .hbm, ⟨45, _⟩ => ⟨S32768x64, .f32⟩
  | .hbm, ⟨46, _⟩ => ⟨S32768x64, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S32768x64, .f32⟩
  | .hbm, ⟨51, _⟩ => ⟨S32768x64, .f32⟩
  | .hbm, ⟨52, _⟩ => ⟨S32768x64, .i32⟩
  | .hbm, ⟨53, _⟩ => ⟨S_, .f32⟩
  | .hbm, ⟨54, _⟩ => ⟨S_, .i32⟩
  | .hbm, ⟨55, _⟩ => ⟨S32768, .f32⟩
  | .hbm, ⟨56, _⟩ => ⟨S32768, .i32⟩
  | .hbm, ⟨57, _⟩ => ⟨S32768x1, .i32⟩
  | .hbm, ⟨58, _⟩ => ⟨S1x64, .i32⟩
  | .hbm, ⟨59, _⟩ => ⟨S32768x64, .i32⟩
  | .hbm, ⟨60, _⟩ => ⟨S32768x64, .i32⟩
  | .hbm, ⟨61, _⟩ => ⟨S32768x64, .i1⟩
  | .hbm, ⟨62, _⟩ => ⟨S32768x64, .f32⟩
  | .hbm, ⟨63, _⟩ => ⟨S_, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_values : Ref sig .tc := ⟨.hbm, 22, rfl⟩
abbrev main_indices : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_cst : Ref sig .tc := ⟨.hbm, 53, rfl⟩
abbrev main_call0_c : Ref sig .tc := ⟨.hbm, 54, rfl⟩
abbrev main_call0_v1_0 : Ref sig .tc := ⟨.hbm, 55, rfl⟩
abbrev main_v37 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_11 : Ref sig .tc := ⟨.hbm, 74, rfl⟩
abbrev main_v46 : Ref sig .tc := ⟨.hbm, 75, rfl⟩
abbrev main_cst_12 : Ref sig .tc := ⟨.hbm, 76, rfl⟩
abbrev main_v47 : Ref sig .tc := ⟨.hbm, 77, rfl⟩

abbrev nD : Nat := 1
abbrev τ : Topo := Topo.v7x

variable {F : FTy → Type} [FloatOps F]
-- ==== Proof.Block.lean ====
/-
  What one grid point's body leaves behind, in terms of one chunk's functions. The body runs the same text on four
  chunks of 1024 tokens; the printed payloads cut that text at different places in each chunk, and each is the first
  chunk's text (`wtsOf`, `idxOf`, `probOf`, `freqOf`) at the chunk's own rows of the token block.
-/
module

public import proofs.«01_k».proof.Proof.Gen.KernelIdeal.Frame
public import Idealize.ShloMosaic.Lib.Pipeline.Value
public import Idealize.ShloMosaic.Lib.ValueIdx

@[expose] public section

noncomputable section

namespace Cert.Router

open Cert.KernelIdeal Cert.KernelIdeal.Gen Idealize.ShloMosaic Idealize.ShloMosaic.TcCoe Idealize.SL.Sem
open Idealize.ShloMosaic.ValueIdx

variable {F : FTy → Type} [FloatOps F] [Named F]

/-- The expert number of every place of a chunk's logits. -/
abbrev rows : IVec S64x1024 32 := iota .tc S64x1024 32 [0] iota_S64x1024_d0_w32

/-- A chunk's logits: one column per token, one row per expert. -/
abbrev lgOf (w1 : Vec F S768x384 .f32) (b1 : Vec F S1x384 .f32) (w2 : Vec F S384x64 .f32) (b2 : Vec F S64x1 .f32)
    (x : Vec F S1024x768 .f32) : FVec F S64x1024 .f32 := k0_pay7 w1 w2 b1 b2 x

/-- A chunk's two rows of weights. -/
abbrev wtsOf (w1 : Vec F S768x384 .f32) (b1 : Vec F S1x384 .f32) (w2 : Vec F S384x64 .f32) (b2 : Vec F S64x1 .f32)
    (x : Vec F S1024x768 .f32) : FVec F S2x1024 .f32 := k0_pay12 (k0_pay8 w1 w2 b1 b2 x) (k0_pay10 w1 w2 b1 b2 x)

/-- A chunk's two rows of chosen experts. -/
abbrev idxOf (w1 : Vec F S768x384 .f32) (b1 : Vec F S1x384 .f32) (w2 : Vec F S384x64 .f32) (b2 : Vec F S64x1 .f32)
    (x : Vec F S1024x768 .f32) : IVec S2x1024 32 := k0_pay13 rows (k0_pay9 w1 w2 b1 b2 x) (k0_pay10 w1 w2 b1 b2 x)

/-- A chunk's sum of router probabilities, per expert. -/
abbrev probOf (w1 : Vec F S768x384 .f32) (b1 : Vec F S1x384 .f32) (w2 : Vec F S384x64 .f32) (b2 : Vec F S64x1 .f32)
    (x : Vec F S1024x768 .f32) : FVec F S64x1 .f32 := k0_pay14 (k0_pay7 w1 w2 b1 b2 x) (k0_pay8 w1 w2 b1 b2 x)

/-- A chunk's number of tokens whose first choice the expert is, per expert. -/
abbrev freqOf (w1 : Vec F S768x384 .f32) (b1 : Vec F S1x384 .f32) (w2 : Vec F S384x64 .f32) (b2 : Vec F S64x1 .f32)
    (x : Vec F S1024x768 .f32) : FVec F S64x1 .f32 := k0_pay15 rows (k0_pay9 w1 w2 b1 b2 x)

/-- Rows `1024 k … 1024 k + 1023` of a token block: chunk `k`'s tokens. -/
def chunk (k : Fin 4) (x : Vec F S4096x768 .f32) : Vec F S1024x768 .f32 :=
  fun y => x (ix2 ⟨1024 * k.val + (y 0).val, by have := idx2_lt0 y; omega⟩ (y 1))

/-- The two rows over the whole block, from the four chunks' two rows. -/
def joined {α : Type} (f : Fin 4 → S2x1024.Idx → α) : S2x4096.Idx → α :=
  fun y => f ⟨(y 1).val / 1024, by have := idx2_lt1 y; omega⟩ (ix2 (y 0) ⟨(y 1).val % 1024, Nat.mod_lt _ (by decide)⟩)

/-- What the four chunks add to an accumulator, in the body's order. -/
abbrev total (f : Fin 4 → FVec F S64x1 .f32) : FVec F S64x1 .f32 :=
  addf (addf (addf (addf (broadcast S64x1 (Scalar.ofBits .f32 0x00000000#32)) (f 0)) (f 1)) (f 2)) (f 3)

/-- The load of rows `o … o + 1023` of a token block is the chunk at `o`. -/
theorem ld_chunk (x : Vec F S4096x768 .f32) (k : Fin 4) (o : Nat) (ho : o = 1024 * k.val)
    (h : ∀ a, (![o, 0] : Fin 2 → Nat) a + S1024x768.size a ≤ S4096x768.size a) :
    View.ld (Val := Elt F) (e' := .f32) x (Rect.unit (s := S4096x768) ![o, 0] S1024x768.size h) = chunk k x := by
  subst ho
  funext y
  refine congrArg x (funext fun a => Fin.ext ?_)
  match a with
  | ⟨0, _⟩ => show 1024 * k.val + 1 * (y 0).val = 1024 * k.val + (y 0).val; omega
  | ⟨1, _⟩ => show 0 + 1 * (y 1).val = (y 1).val; omega

/-- Four stores, one per chunk of 1024 columns, leave the joined rows. -/
theorem canon_joined {e : EltTy} (f : Fin 4 → S2x1024.Idx → Elt F e)
    (h0 : ∀ a, (![0, 0] : Fin 2 → Nat) a + S2x1024.size a ≤ S2x4096.size a)
    (h1 : ∀ a, (![0, 1024] : Fin 2 → Nat) a + S2x1024.size a ≤ S2x4096.size a)
    (h2 : ∀ a, (![0, 2048] : Fin 2 → Nat) a + S2x1024.size a ≤ S2x4096.size a)
    (h3 : ∀ a, (![0, 3072] : Fin 2 → Nat) a + S2x1024.size a ≤ S2x4096.size a) :
    View.canon (Val := Elt F) (s := S2x4096) (e := e) [⟨Rect.unit ![0, 3072] S2x1024.size h3, f 3⟩, ⟨Rect.unit ![0, 2048] S2x1024.size h2, f 2⟩,
      ⟨Rect.unit ![0, 1024] S2x1024.size h1, f 1⟩, ⟨Rect.unit ![0, 0] S2x1024.size h0, f 0⟩] = joined f := by
  have key : ∀ (k : Fin 4) (o : Nat) (ho : o = 1024 * k.val)
      (h : ∀ a, (![0, o] : Fin 2 → Nat) a + S2x1024.size a ≤ S2x4096.size a) (x : S2x1024.Idx),
      f k x = joined f ((Rect.unit (s := S2x4096) ![0, o] S2x1024.size h).emb x) := by
    intro k o ho h x
    subst ho
    have h1 := idx2_lt1 x
    have e1 : ((Rect.unit (s := S2x4096) ![0, 1024 * k.val] S2x1024.size h).emb x 1).val = 1024 * k.val + 1 * (x 1).val := rfl
    have e0 : ((Rect.unit (s := S2x4096) ![0, 1024 * k.val] S2x1024.size h).emb x 0).val = 0 + 1 * (x 0).val := rfl
    have ek : (⟨((Rect.unit (s := S2x4096) ![0, 1024 * k.val] S2x1024.size h).emb x 1).val / 1024, by
        have := idx2_lt1 ((Rect.unit (s := S2x4096) ![0, 1024 * k.val] S2x1024.size h).emb x); omega⟩ : Fin 4) = k :=
      Fin.ext (by show _ / 1024 = _; rw [e1]; omega)
    unfold joined
    rw [ek]
    refine congrArg (f k) (funext fun a => Fin.ext ?_)
    match a with
    | ⟨0, _⟩ => show (x 0).val = ((Rect.unit (s := S2x4096) ![0, 1024 * k.val] S2x1024.size h).emb x 0).val; rw [e0]; omega
    | ⟨1, _⟩ => show (x 1).val = ((Rect.unit (s := S2x4096) ![0, 1024 * k.val] S2x1024.size h).emb x 1).val % 1024; rw [e1]; omega
  funext y
  have hy0 := idx2_lt0 y
  have hy1 := idx2_lt1 y
  refine View.canon_apply_of_pieces (joined f) _ ?_ y ?_
  · intro p hp
    simp only [List.mem_cons, List.not_mem_nil, or_false] at hp
    rcases hp with rfl | rfl | rfl | rfl
    · exact key 3 3072 rfl h3
    · exact key 2 2048 rfl h2
    · exact key 1 1024 rfl h1
    · exact key 0 0 rfl h0
  · have hm : ∀ (o : Nat) (h : ∀ a, (![0, o] : Fin 2 → Nat) a + S2x1024.size a ≤ S2x4096.size a),
        o ≤ (y 1).val → (y 1).val < o + 1024 → y ∈ (Rect.unit (s := S2x4096) ![0, o] S2x1024.size h).set := by
      intro o h ha hb
      rw [Rect.mem_set_unit]
      intro a
      match a with
      | ⟨0, _⟩ => show 0 ≤ (y 0).val ∧ (y 0).val < 0 + 2; omega
      | ⟨1, _⟩ => show o ≤ (y 1).val ∧ (y 1).val < o + 1024; omega
    by_cases c1 : (y 1).val < 1024
    · exact ⟨⟨Rect.unit ![0, 0] S2x1024.size h0, f 0⟩, by simp, hm 0 h0 (by omega) (by omega)⟩
    by_cases c2 : (y 1).val < 2048
    · exact ⟨⟨Rect.unit ![0, 1024] S2x1024.size h1, f 1⟩, by simp, hm 1024 h1 (by omega) (by omega)⟩
    by_cases c3 : (y 1).val < 3072
    · exact ⟨⟨Rect.unit ![0, 2048] S2x1024.size h2, f 2⟩, by simp, hm 2048 h2 (by omega) (by omega)⟩
    exact ⟨⟨Rect.unit ![0, 3072] S2x1024.size h3, f 3⟩, by simp, hm 3072 h3 (by omega) (by omega)⟩

theorem zero2 : (![0, 0] : Fin 2 → Nat) = fun _ => 0 := by decide

/-- A cast to the shape an array already has keeps it. -/
theorem kept (v : FVec F S64x1 .f32) : shapeCast S64x1 v shapeCasts_S64x1_S64x1 = v := shapeCast_self _ _

section Points

variable (c : Dev nD) (i : grid0.Coords) (arg1 : Memref sig .tc .vmem S4096x768 .f32) (harg1 : arg1.IsWhole) (arg2 : Memref sig .tc .vmem S768x384 .f32) (harg2 : arg2.IsWhole) (arg3 : Memref sig .tc .vmem S1x384 .f32) (harg3 : arg3.IsWhole) (arg4 : Memref sig .tc .vmem S384x64 .f32) (harg4 : arg4.IsWhole) (arg5 : Memref sig .tc .vmem S64x1 .f32) (harg5 : arg5.IsWhole) (arg6 : Memref sig .tc .vmem S2x4096 .f32) (harg6 : arg6.IsWhole) (arg7 : Memref sig .tc .vmem S2x4096 .i32) (harg7 : arg7.IsWhole) (arg8 : Memref sig .tc .vmem S1x1 .f32) (harg8 : arg8.IsWhole) (arg9 : Memref sig .tc .vmem S64x1 .f32) (harg9 : arg9.IsWhole) (arg10 : Memref sig .tc .vmem S64x1 .f32) (harg10 : arg10.IsWhole)
    (x0 : Vec F S4096x768 .f32) (x1 : Vec F S768x384 .f32) (x2 : Vec F S1x384 .f32) (x3 : Vec F S384x64 .f32) (x4 : Vec F S64x1 .f32)
    (xs0 : Vec F S64x1 .f32) (xs1 : Vec F S64x1 .f32)

/-- The first point: the chunks' weights and choices, and the accumulators at zero plus the chunks' sums. -/
theorem body_A (hc0 : cond0_0 i) (hc1 : ¬cond0_1 i) :
    out0_A_5 c i arg1 harg1 arg2 harg2 arg3 harg3 arg4 harg4 arg5 harg5 arg6 harg6 arg7 harg7 arg8 harg8 arg9 harg9 arg10 harg10 hc0 hc1 x0 x1 x2 x3 x4
        = joined (fun k => wtsOf x1 x2 x3 x4 (chunk k x0))
      ∧ out0_A_6 c i arg1 harg1 arg2 harg2 arg3 harg3 arg4 harg4 arg5 harg5 arg6 harg6 arg7 harg7 arg8 harg8 arg9 harg9 arg10 harg10 hc0 hc1 x0 x1 x2 x3 x4
        = joined (fun k => idxOf (F := F) x1 x2 x3 x4 (chunk k x0))
      ∧ sout0_A_0 c i arg1 harg1 arg2 harg2 arg3 harg3 arg4 harg4 arg5 harg5 arg6 harg6 arg7 harg7 arg8 harg8 arg9 harg9 arg10 harg10 hc0 hc1 x0 x1 x2 x3 x4
        = addf k0_pay3 (total fun k => freqOf x1 x2 x3 x4 (chunk k x0))
      ∧ sout0_A_1 c i arg1 harg1 arg2 harg2 arg3 harg3 arg4 harg4 arg5 harg5 arg6 harg6 arg7 harg7 arg8 harg8 arg9 harg9 arg10 harg10 hc0 hc1 x0 x1 x2 x3 x4
        = addf k0_pay4 (total fun k => probOf x1 x2 x3 x4 (chunk k x0)) := by
  refine ⟨((View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)).trans (Eq.trans ?_
        (canon_joined (F := F) (e := .f32) (fun k => wtsOf x1 x2 x3 x4 (chunk k x0)) inb_S2x4096_S2x1024_0_0
          inb_S2x4096_S2x1024_0_1024 inb_S2x4096_S2x1024_0_2048 inb_S2x4096_S2x1024_0_3072))),
    ((View.read_writes_eq_canon _ _ _ (cover0_A_6 c i arg1 harg1 arg2 harg2 arg3 harg3 arg4 harg4 arg5 harg5 arg6 harg6 arg7 harg7 arg8 harg8 arg9 harg9 arg10 harg10 hc0 hc1 x0 x1 x2 x3 x4)).trans (Eq.trans ?_
        (canon_joined (F := F) (e := .i32) (fun k => idxOf (F := F) x1 x2 x3 x4 (chunk k x0)) inb_S2x4096_S2x1024_0_0
          inb_S2x4096_S2x1024_0_1024 inb_S2x4096_S2x1024_0_2048 inb_S2x4096_S2x1024_0_3072))),
    ((View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)).trans ?_),
    ((View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)).trans ?_)⟩
  all_goals
    unfold kernelRun0_A
    dsimp only
    sl_unfold_words
    simp only [View.readAt_eq_ld, harg1.read_unread, harg2.read_unread, harg3.read_unread, harg4.read_unread, harg5.read_unread,
      harg9.read_unread, harg10.read_unread, View.canon_cons_unit_zero (S := S64x1) zero2, View.canon_cons_unit_zero (S := S1x1) zero2,
      View.readCov_cons_toLoadRect,
      View.ld_unit_zero (S := S768x384) zero2, View.ld_unit_zero (S := S1x384) zero2, View.ld_unit_zero (S := S384x64) zero2, View.ld_unit_zero (S := S64x1) zero2,
      ld_chunk x0 0 0 rfl, ld_chunk x0 1 1024 rfl, ld_chunk x0 2 2048 rfl, ld_chunk x0 3 3072 rfl]
  · rfl
  · rfl
  · exact kept (addf k0_pay3 (total fun k => freqOf x1 x2 x3 x4 (chunk k x0)))
  · exact kept (addf k0_pay4 (total fun k => probOf x1 x2 x3 x4 (chunk k x0)))

/-- A point between the first and the last: the accumulators gain the chunks' sums. -/
theorem body_B (hc0 : ¬cond0_0 i) (hc1 : ¬cond0_1 i) :
    out0_B_5 c i arg1 harg1 arg2 harg2 arg3 harg3 arg4 harg4 arg5 harg5 arg6 harg6 arg7 harg7 arg8 harg8 arg9 harg9 arg10 harg10 hc0 hc1 x0 x1 x2 x3 x4 xs0 xs1
        = joined (fun k => wtsOf x1 x2 x3 x4 (chunk k x0))
      ∧ out0_B_6 c i arg1 harg1 arg2 harg2 arg3 harg3 arg4 harg4 arg5 harg5 arg6 harg6 arg7 harg7 arg8 harg8 arg9 harg9 arg10 harg10 hc0 hc1 x0 x1 x2 x3 x4 xs0 xs1
        = joined (fun k => idxOf (F := F) x1 x2 x3 x4 (chunk k x0))
      ∧ sout0_B_0 c i arg1 harg1 arg2 harg2 arg3 harg3 arg4 harg4 arg5 harg5 arg6 harg6 arg7 harg7 arg8 harg8 arg9 harg9 arg10 harg10 hc0 hc1 x0 x1 x2 x3 x4 xs0 xs1
        = addf xs0 (total fun k => freqOf x1 x2 x3 x4 (chunk k x0))
      ∧ sout0_B_1 c i arg1 harg1 arg2 harg2 arg3 harg3 arg4 harg4 arg5 harg5 arg6 harg6 arg7 harg7 arg8 harg8 arg9 harg9 arg10 harg10 hc0 hc1 x0 x1 x2 x3 x4 xs0 xs1
        = addf xs1 (total fun k => probOf x1 x2 x3 x4 (chunk k x0)) := by
  refine ⟨((View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)).trans (Eq.trans ?_
        (canon_joined (F := F) (e := .f32) (fun k => wtsOf x1 x2 x3 x4 (chunk k x0)) inb_S2x4096_S2x1024_0_0
          inb_S2x4096_S2x1024_0_1024 inb_S2x4096_S2x1024_0_2048 inb_S2x4096_S2x1024_0_3072))),
    ((View.read_writes_eq_canon _ _ _ (cover0_B_6 c i arg1 harg1 arg2 harg2 arg3 harg3 arg4 harg4 arg5 harg5 arg6 harg6 arg7 harg7 arg8 harg8 arg9 harg9 arg10 harg10 hc0 hc1 x0 x1 x2 x3 x4 xs0 xs1)).trans (Eq.trans ?_
        (canon_joined (F := F) (e := .i32) (fun k => idxOf (F := F) x1 x2 x3 x4 (chunk k x0)) inb_S2x4096_S2x1024_0_0
          inb_S2x4096_S2x1024_0_1024 inb_S2x4096_S2x1024_0_2048 inb_S2x4096_S2x1024_0_3072))),
    ((View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)).trans ?_),
    ((View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)).trans ?_)⟩
  all_goals
    unfold kernelRun0_B
    dsimp only
    sl_unfold_words
    simp only [View.readAt_eq_ld, harg1.read_unread, harg2.read_unread, harg3.read_unread, harg4.read_unread, harg5.read_unread,
      harg9.read_unread, harg10.read_unread, View.canon_cons_unit_zero (S := S64x1) zero2, View.canon_cons_unit_zero (S := S1x1) zero2,
      View.readCov_cons_toLoadRect,
      View.ld_unit_zero (S := S768x384) zero2, View.ld_unit_zero (S := S1x384) zero2, View.ld_unit_zero (S := S384x64) zero2, View.ld_unit_zero (S := S64x1) zero2,
      ld_chunk x0 0 0 rfl, ld_chunk x0 1 1024 rfl, ld_chunk x0 2 2048 rfl, ld_chunk x0 3 3072 rfl]
  · rfl
  · rfl
  · exact kept (addf xs0 (total fun k => freqOf x1 x2 x3 x4 (chunk k x0)))
  · exact kept (addf xs1 (total fun k => probOf x1 x2 x3 x4 (chunk k x0)))

/-- The last point: as before, and the loss from the accumulators as this point leaves them. -/
theorem body_C (hc0 : ¬cond0_0 i) (hc1 : cond0_1 i) :
    out0_C_5 c i arg1 harg1 arg2 harg2 arg3 harg3 arg4 harg4 arg5 harg5 arg6 harg6 arg7 harg7 arg8 harg8 arg9 harg9 arg10 harg10 hc0 hc1 x0 x1 x2 x3 x4 xs0 xs1
        = joined (fun k => wtsOf x1 x2 x3 x4 (chunk k x0))
      ∧ out0_C_6 c i arg1 harg1 arg2 harg2 arg3 harg3 arg4 harg4 arg5 harg5 arg6 harg6 arg7 harg7 arg8 harg8 arg9 harg9 arg10 harg10 hc0 hc1 x0 x1 x2 x3 x4 xs0 xs1
        = joined (fun k => idxOf (F := F) x1 x2 x3 x4 (chunk k x0))
      ∧ sout0_C_0 c i arg1 harg1 arg2 harg2 arg3 harg3 arg4 harg4 arg5 harg5 arg6 harg6 arg7 harg7 arg8 harg8 arg9 harg9 arg10 harg10 hc0 hc1 x0 x1 x2 x3 x4 xs0 xs1
        = addf xs0 (total fun k => freqOf x1 x2 x3 x4 (chunk k x0))
      ∧ sout0_C_1 c i arg1 harg1 arg2 harg2 arg3 harg3 arg4 harg4 arg5 harg5 arg6 harg6 arg7 harg7 arg8 harg8 arg9 harg9 arg10 harg10 hc0 hc1 x0 x1 x2 x3 x4 xs0 xs1
        = addf xs1 (total fun k => probOf x1 x2 x3 x4 (chunk k x0))
      ∧ out0_C_7 c i arg1 harg1 arg2 harg2 arg3 harg3 arg4 harg4 arg5 harg5 arg6 harg6 arg7 harg7 arg8 harg8 arg9 harg9 arg10 harg10 hc0 hc1 x0 x1 x2 x3 x4 xs0 xs1
        = k0_pay2 (addf xs0 (total fun k => freqOf x1 x2 x3 x4 (chunk k x0)))
            (addf xs1 (total fun k => probOf x1 x2 x3 x4 (chunk k x0))) := by
  refine ⟨((View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)).trans (Eq.trans ?_
        (canon_joined (F := F) (e := .f32) (fun k => wtsOf x1 x2 x3 x4 (chunk k x0)) inb_S2x4096_S2x1024_0_0
          inb_S2x4096_S2x1024_0_1024 inb_S2x4096_S2x1024_0_2048 inb_S2x4096_S2x1024_0_3072))),
    ((View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)).trans (Eq.trans ?_
        (canon_joined (F := F) (e := .i32) (fun k => idxOf (F := F) x1 x2 x3 x4 (chunk k x0)) inb_S2x4096_S2x1024_0_0
          inb_S2x4096_S2x1024_0_1024 inb_S2x4096_S2x1024_0_2048 inb_S2x4096_S2x1024_0_3072))),
    ((View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)).trans ?_),
    ((View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)).trans ?_) ,
    ((View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)).trans ?_)⟩
  all_goals
    unfold kernelRun0_C
    dsimp only
    sl_unfold_words
    simp only [View.readAt_eq_ld, harg1.read_unread, harg2.read_unread, harg3.read_unread, harg4.read_unread, harg5.read_unread,
      harg9.read_unread, harg10.read_unread, View.canon_cons_unit_zero (S := S64x1) zero2, View.canon_cons_unit_zero (S := S1x1) zero2,
      View.readCov_cons_toLoadRect,
      View.ld_unit_zero (S := S768x384) zero2, View.ld_unit_zero (S := S1x384) zero2, View.ld_unit_zero (S := S384x64) zero2, View.ld_unit_zero (S := S64x1) zero2,
      ld_chunk x0 0 0 rfl, ld_chunk x0 1 1024 rfl, ld_chunk x0 2 2048 rfl, ld_chunk x0 3 3072 rfl]
  · rfl
  · rfl
  · exact kept (addf xs0 (total fun k => freqOf x1 x2 x3 x4 (chunk k x0)))
  · exact kept (addf xs1 (total fun k => probOf x1 x2 x3 x4 (chunk k x0)))
  · exact congrArg₂ k0_pay2 (kept (addf xs0 (total fun k => freqOf x1 x2 x3 x4 (chunk k x0))))
      (kept (addf xs1 (total fun k => probOf x1 x2 x3 x4 (chunk k x0))))

end Points

end Cert.Router
-- ==== Proof.Spec.lean ====
/-
  The router's mathematics over the reals, with no array in it: one token's logits, its two best experts and their
  weights, its expert probabilities, and the balancing loss of all tokens.
-/
module

public import Mathlib.Data.EReal.Basic
public import Mathlib.Analysis.SpecialFunctions.Exp
public import Mathlib.Analysis.SpecialFunctions.Trigonometric.DerivHyp

@[expose] public section

noncomputable section

namespace Cert.Router

/-! ### Choosing an expert -/

/-- Place `i` is the first of the greatest of a row of 64 values. -/
def IsFirst (f : Fin 64 → EReal) (i : Fin 64) : Prop := (∀ j, f j ≤ f i) ∧ ∀ j, j < i → f j < f i

/-- Every row has such a place. -/
theorem exists_first (f : Fin 64 → EReal) : ∃ i, IsFirst f i := by
  classical
  obtain ⟨m, -, hm⟩ := Finset.exists_max_image Finset.univ f ⟨0, Finset.mem_univ _⟩
  have hne : (Finset.univ.filter fun i => ∀ j, f j ≤ f i).Nonempty :=
    ⟨m, Finset.mem_filter.mpr ⟨Finset.mem_univ _, fun j => hm j (Finset.mem_univ _)⟩⟩
  refine ⟨(Finset.univ.filter fun i => ∀ j, f j ≤ f i).min' hne, ?_, fun j hj => ?_⟩
  · exact (Finset.mem_filter.mp (Finset.min'_mem _ hne)).2
  · have hmin := (Finset.mem_filter.mp (Finset.min'_mem _ hne)).2
    refine lt_of_le_of_ne (hmin j) fun e => ?_
    have hj' : j ∈ Finset.univ.filter fun i => ∀ j, f j ≤ f i :=
      Finset.mem_filter.mpr ⟨Finset.mem_univ _, fun k => (hmin k).trans e.ge⟩
    exact absurd hj (not_lt.mpr (Finset.min'_le _ _ hj'))

/-- And only one. -/
theorem IsFirst.unique {f : Fin 64 → EReal} {i j : Fin 64} (hi : IsFirst f i) (hj : IsFirst f j) : i = j := by
  rcases lt_trichotomy i j with h | h | h
  · exact absurd (hj.2 i h) (not_lt.mpr (hi.1 j))
  · exact h
  · exact absurd (hi.2 j h) (not_lt.mpr (hj.1 i))

/-- The first of the greatest places. -/
def first (f : Fin 64 → EReal) : Fin 64 := (exists_first f).choose

/-- What `first` is. -/
theorem first_spec (f : Fin 64 → EReal) : IsFirst f (first f) := (exists_first f).choose_spec

/-- A place that is the first of the greatest is `first`. -/
theorem IsFirst.eq_first {f : Fin 64 → EReal} {i : Fin 64} (h : IsFirst f i) : i = first f := h.unique (first_spec f)

/-- The row with the place `i` taken out. -/
def without (f : Fin 64 → EReal) (i : Fin 64) : Fin 64 → EReal := fun j => if j = i then ⊥ else f j

/-- The second place: the first of the greatest among the others. -/
def second (f : Fin 64 → EReal) : Fin 64 := first (without f (first f))

/-- A row of reals, as extended reals. -/
def ext (l : Fin 64 → ℝ) : Fin 64 → EReal := fun e => (l e : EReal)

/-- The first place of a row of reals. -/
def top1 (l : Fin 64 → ℝ) : Fin 64 := first (ext l)

/-- The second place of a row of reals. -/
def top2 (l : Fin 64 → ℝ) : Fin 64 := second (ext l)

/-- No value exceeds the first place's. -/
theorem le_top1 (l : Fin 64 → ℝ) (e : Fin 64) : l e ≤ l (top1 l) :=
  EReal.coe_le_coe_iff.mp ((first_spec (ext l)).1 e)

/-- The second place is another than the first. -/
theorem top2_ne (l : Fin 64 → ℝ) : top2 l ≠ top1 l := by
  intro h
  have h2 := (first_spec (without (ext l) (top1 l))).1
  have hb : without (ext l) (top1 l) (first (without (ext l) (top1 l))) = ⊥ := by
    have h' : first (without (ext l) (top1 l)) = top1 l := h
    rw [h']; exact if_pos rfl
  obtain ⟨e, he⟩ : ∃ e : Fin 64, e ≠ top1 l := exists_ne _
  have := h2 e
  rw [hb] at this
  simp [without, he, ext] at this

/-- Apart from the first place, no value exceeds the second place's. -/
theorem le_top2 (l : Fin 64 → ℝ) (e : Fin 64) (he : e ≠ top1 l) : l e ≤ l (top2 l) := by
  have h := (first_spec (without (ext l) (top1 l))).1 e
  have h2 : first (without (ext l) (top1 l)) ≠ top1 l := top2_ne l
  rw [without, if_neg he, without, if_neg h2] at h
  exact EReal.coe_le_coe_iff.mp h

/-- Before the second place, every value but the first place's is smaller. -/
theorem lt_top2 (l : Fin 64 → ℝ) (e : Fin 64) (he : e ≠ top1 l) (hlt : e < top2 l) : l e < l (top2 l) := by
  have h := (first_spec (without (ext l) (top1 l))).2 e hlt
  have h2 : first (without (ext l) (top1 l)) ≠ top1 l := top2_ne l
  rw [without, if_neg he, without, if_neg h2] at h
  exact EReal.coe_lt_coe_iff.mp h

/-- Before the first place, every value is smaller. -/
theorem lt_top1 (l : Fin 64 → ℝ) (e : Fin 64) (hlt : e < top1 l) : l e < l (top1 l) :=
  EReal.coe_lt_coe_iff.mp ((first_spec (ext l)).2 e hlt)

/-! ### One token -/

/-- A token's value in hidden unit `k` before the activation. -/
def hid (x : Fin 768 → ℝ) (w1 : Fin 768 → Fin 384 → ℝ) (b1 : Fin 384 → ℝ) (k : Fin 384) : ℝ :=
  (∑ d, x d * w1 d k) + b1 k

/-- The activation. -/
def silu (h : ℝ) : ℝ := h * (1 / (1 + Real.exp (-h)))

/-- A token's logit for expert `e`. -/
def logit (x : Fin 768 → ℝ) (w1 : Fin 768 → Fin 384 → ℝ) (b1 : Fin 384 → ℝ) (w2 : Fin 384 → Fin 64 → ℝ)
    (b2 : Fin 64 → ℝ) (e : Fin 64) : ℝ :=
  (∑ k, silu (hid x w1 b1 k) * w2 k e) + b2 e

/-- How much less likely the second expert is than the first. -/
def ratio (l : Fin 64 → ℝ) : ℝ := Real.exp (l (top2 l) - l (top1 l))

/-- The weight of a token's first expert. -/
def weight1 (l : Fin 64 → ℝ) : ℝ := 1 / (1 + ratio l)

/-- The weight of a token's second expert. -/
def weight2 (l : Fin 64 → ℝ) : ℝ := ratio l * (1 / (1 + ratio l))

/-- The sum of the exponentials of a token's logits, each less the greatest. -/
def mass (l : Fin 64 → ℝ) : ℝ := ∑ e, Real.exp (l e - l (top1 l))

/-- The probability of expert `e`. -/
def prob (l : Fin 64 → ℝ) (e : Fin 64) : ℝ := Real.exp (l e - l (top1 l)) * (1 / mass l)

/-- Whether expert `e` is a token's first. -/
def picked (l : Fin 64 → ℝ) (e : Fin 64) : ℝ := if e = top1 l then 1 else 0

theorem ratio_pos (l : Fin 64 → ℝ) : 0 < ratio l := Real.exp_pos _

theorem mass_pos (l : Fin 64 → ℝ) : 0 < mass l := Finset.sum_pos (fun _ _ => Real.exp_pos _) ⟨0, Finset.mem_univ _⟩

/-- Half a hyperbolic tangent of the half, plus a half, is the logistic function. -/
theorem half_tanh (h : ℝ) : 1 / 2 * Real.tanh (1 / 2 * h) + 1 / 2 = 1 / (1 + Real.exp (-h)) := by
  have e1 : Real.exp (-h) = Real.exp (-(1 / 2 * h)) * Real.exp (-(1 / 2 * h)) := by
    rw [← Real.exp_add]; congr 1; ring
  have e2 : Real.exp (1 / 2 * h) * Real.exp (-(1 / 2 * h)) = 1 := by
    rw [← Real.exp_add]; simp
  rw [Real.tanh_eq_sinh_div_cosh, Real.sinh_eq, Real.cosh_eq, e1]
  have p := Real.exp_pos (1 / 2 * h)
  have q := Real.exp_pos (-(1 / 2 * h))
  generalize Real.exp (1 / 2 * h) = u at *
  generalize Real.exp (-(1 / 2 * h)) = v at *
  have a1 : u + v ≠ 0 := by positivity
  have a2 : 1 + v * v ≠ 0 := by positivity
  field_simp
  linear_combination (2 * v) * e2

/-! ### All tokens -/

/-- The balancing loss of the logits of 32768 tokens. -/
def lossOf (l : Fin 32768 → Fin 64 → ℝ) : ℝ :=
  64 * ∑ e, ((∑ t, picked (l t) e) / 32768) * ((∑ t, prob (l t) e) / 32768)

end Cert.Router

end
-- ==== Proof.Fold.lean ====
/-
  Folds of a row of 64 values: its greatest value is the first place's, and the least number among the places that hold
  it is the first place. Sums of reals read in the extended reals.
-/
module

public import proofs.«01_k».proof.Proof.Spec
public import Idealize.ShloMosaic.Lib.Pointwise

@[expose] public section

noncomputable section

namespace Cert.Router

open Idealize.ShloMosaic

/-- The pattern of minus infinity. -/
theorem bits_bot : Ideal.ofBits .f32 0xFF800000#32 = ⊥ := by simp [Ideal.ofBits, Ideal.ieee]

/-- The pattern of one half. -/
theorem bits_half : Ideal.ofBits .f32 0x3F000000#32 = ((1 / 2 : ℝ) : EReal) := by
  simp [Ideal.ofBits, Ideal.ieee, -EReal.coe_mul]; norm_num

/-- The pattern of 64. -/
theorem bits_64 : Ideal.ofBits .f32 0x42800000#32 = ((64 : ℝ) : EReal) := by
  simp [Ideal.ofBits, Ideal.ieee, -EReal.coe_mul]; norm_num

/-- The pattern of 32768. -/
theorem bits_32768 : Ideal.ofBits .f32 0x47000000#32 = ((32768 : ℝ) : EReal) := by
  simp [Ideal.ofBits, Ideal.ieee, -EReal.coe_mul]; norm_num

/-- The pattern of the loss's scale, two to the power −24. -/
theorem bits_scale : Ideal.ofBits .f32 0x33800000#32 = ((1 / 16777216 : ℝ) : EReal) := by
  simp [Ideal.ofBits, Ideal.ieee, -EReal.coe_mul]; norm_num

/-- A finite sum of reals, read in the extended reals. -/
theorem coe_sum {ι : Type} [Fintype ι] (f : ι → ℝ) : ((∑ i, f i : ℝ) : EReal) = ∑ i, (f i : EReal) := by
  classical
  refine Finset.induction_on (motive := fun s => ((∑ i ∈ s, f i : ℝ) : EReal) = ∑ i ∈ s, (f i : EReal)) _ (by simp) ?_
  intro a s ha ih
  rw [Finset.sum_insert ha, Finset.sum_insert ha, EReal.coe_add, ih]

/-- One over a positive real, in the extended reals. -/
theorem div_coe (a b : ℝ) (hb : 0 < b) : Ideal.div (a : EReal) (b : EReal) = ((a / b : ℝ) : EReal) := by
  have h : (b : EReal) ≠ 0 := by exact_mod_cast hb.ne'
  rw [EReal.coe_div]; simp [Ideal.div, h, EReal.div_eq_inv_mul, mul_comm]

/-- The greatest value of a row is the first place's. -/
theorem fold_max_first (f : Fin 64 → EReal) :
    (Finset.univ : Finset (Fin 64)).fold max ⊥ f = f (first f) := by
  refine le_antisymm ?_ ?_
  · exact (Finset.fold_max_le _).mpr ⟨bot_le, fun e _ => (first_spec f).1 e⟩
  · exact (Finset.le_fold_max _).mpr (Or.inr ⟨first f, Finset.mem_univ _, le_rfl⟩)

/-- The signed minimum of words is the minimum of their integers. -/
theorem toInt_minsi (a b : BitVec 32) : (IntOp.minsi a b).toInt = min a.toInt b.toInt := by
  unfold IntOp.minsi
  split <;> simp_all [BitVec.slt, BitVec.sle] <;> omega

/-- An expert's number as a word, read as an integer. -/
theorem toInt_expert (e : Fin 64) : (BitVec.ofNat 32 e.val).toInt = (e.val : Int) := by
  revert e; decide

/-- The least number among the places that hold the greatest value is the first place's. -/
theorem fold_min_first (f : Fin 64 → EReal) (m : EReal) (hm : m = f (first f)) :
    (Finset.univ : Finset (Fin 64)).fold IntOp.minsi (2147483647#32)
      (fun e => if f e = m then BitVec.ofNat 32 e.val else 64#32) = BitVec.ofNat 32 (first f).val := by
  subst hm
  apply BitVec.eq_of_toInt_eq
  rw [← Finset.fold_hom (op := IntOp.minsi) (op' := (min : Int → Int → Int)) (m := BitVec.toInt) toInt_minsi,
    toInt_expert]
  refine le_antisymm ?_ ?_
  · refine (Finset.fold_min_le _).mpr (Or.inr ⟨first f, Finset.mem_univ _, ?_⟩)
    rw [if_pos rfl, toInt_expert]
  · refine (Finset.le_fold_min _).mpr ⟨?_, fun e _ => ?_⟩
    · have : (2147483647#32 : BitVec 32).toInt = 2147483647 := by decide
      rw [this]; have := (first f).isLt; omega
    · by_cases h : f e = f (first f)
      · rw [if_pos h, toInt_expert]
        have : ¬ e < first f := fun hlt => absurd h ((first_spec f).2 e hlt).ne
        have : first f ≤ e := not_lt.mp this
        exact_mod_cast this
      · rw [if_neg h]
        have h64 : (64#32 : BitVec 32).toInt = 64 := by decide
        rw [h64]; have := (first f).isLt; omega

/-- Two experts' numbers are the same word only if the experts are the same. -/
theorem expert_inj (e e' : Fin 64) : BitVec.ofNat 32 e.val = BitVec.ofNat 32 e'.val ↔ e = e' := by
  constructor
  · intro h
    have := congrArg BitVec.toInt h
    rw [toInt_expert, toInt_expert] at this
    exact Fin.ext (by exact_mod_cast this)
  · rintro rfl; rfl

/-- The selection by the equality of two experts' numbers. -/
theorem select_expert {α : Type} (e e' : Fin 64) (a b : α) :
    Scalar.select (IntOp.cmpi .eq (BitVec.ofNat 32 e.val) (BitVec.ofNat 32 e'.val)) a b = if e = e' then a else b := by
  by_cases h : e = e'
  · subst h; simp [Scalar.select, IntOp.cmpi]
  · have : BitVec.ofNat 32 e.val ≠ BitVec.ofNat 32 e'.val := fun k => h ((expert_inj e e').mp k)
    have hb : (BitVec.ofNat 32 e.val == BitVec.ofNat 32 e'.val) = false := beq_eq_false_iff_ne.mpr this
    simp [Scalar.select, IntOp.cmpi, hb, h]

end Cert.Router

end
-- ==== Proof.KerMath.lean ====
/-
  What the kernel computes of one chunk of 1024 tokens, over the reals: for finite arguments every chunk function is the
  router's mathematics of the chunk's tokens.
-/
module

public import proofs.«01_k».proof.Proof.Block
public import proofs.«01_k».proof.Proof.Fold

@[expose] public section

noncomputable section

namespace Cert.Router

open Cert.KernelIdeal Cert.KernelIdeal.Gen Idealize.ShloMosaic

/-- The mask's value is minus infinity. -/
theorem mask_bot : (Named.named (F := Ideal) (φ := .f32) κ "mask" 0xF149F2CA#32 : EReal) = ⊥ :=
  IdealRules.named_const.ideal_named_scalar _ _ _ _ rfl

section chunk

variable (w1 : Vec Ideal S768x384 .f32) (b1 : Vec Ideal S1x384 .f32) (w2 : Vec Ideal S384x64 .f32)
  (b2 : Vec Ideal S64x1 .f32) (x : Vec Ideal S1024x768 .f32)
  (X : Fin 1024 → Fin 768 → ℝ) (W1 : Fin 768 → Fin 384 → ℝ) (B1 : Fin 384 → ℝ) (W2 : Fin 384 → Fin 64 → ℝ)
  (B2 : Fin 64 → ℝ)

/-- The chunk's arguments are the reals `X`, `W1`, `B1`, `W2`, `B2`. -/
structure Reads : Prop where
  hx : ∀ r d, x (ix2 r d) = (X r d : EReal)
  hw1 : ∀ d k, w1 (ix2 d k) = (W1 d k : EReal)
  hb1 : ∀ k, b1 (ix2 0 k) = (B1 k : EReal)
  hw2 : ∀ k e, w2 (ix2 k e) = (W2 k e : EReal)
  hb2 : ∀ e, b2 (ix2 e 0) = (B2 e : EReal)

variable {w1 b1 w2 b2 x X W1 B1 W2 B2} (H : Reads w1 b1 w2 b2 x X W1 B1 W2 B2)
include H

/-- The chunk's logits. -/
theorem lg_real (r : Fin 1024) (e : Fin 64) :
    k0_pay7 w1 w2 b1 b2 x (ix2 e r) = (logit (X r) W1 B1 W2 B2 e : EReal) := by
  pointwise [k0_pay7, k0_pay5, k0_pay6]
  simp only [H.hx, H.hw1, H.hb1, H.hw2, H.hb2, bits_half, ← EReal.coe_mul, ← coe_sum, ← EReal.coe_add, Ideal.tanh_coe]
  refine congrArg _ ?_
  unfold logit
  refine congrArg (· + B2 e) (Finset.sum_congr rfl fun k _ => ?_)
  have h := half_tanh (hid (X r) W1 B1 k)
  unfold hid at h
  rw [h, mul_comm]
  rfl

/-- A chunk's column of logits, as a row of 64 values. -/
theorem lg_row (r : Fin 1024) :
    (fun e => k0_pay7 w1 w2 b1 b2 x (ix2 e r)) = ext (logit (X r) W1 B1 W2 B2) :=
  funext fun e => lg_real H r e

/-- A token's greatest logit. -/
theorem max_real (r : Fin 1024) :
    k0_pay8 w1 w2 b1 b2 x (ix2 0 r)
      = (logit (X r) W1 B1 W2 B2 (top1 (logit (X r) W1 B1 W2 B2)) : EReal) := by
  pointwise [k0_pay8]
  rw [bits_bot, lg_row H r, fold_max_first]
  rfl

/-- A token's first expert. -/
theorem arg_real (r : Fin 1024) :
    k0_pay9 w1 w2 b1 b2 x (ix2 0 r) = BitVec.ofNat 32 (top1 (logit (X r) W1 B1 W2 B2)).val := by
  pointwise [k0_pay9]
  have h := fold_min_first (ext (logit (X r) W1 B1 W2 B2)) _ (max_real H r)
  rw [← lg_row H r] at h
  rw [h, lg_row H r]
  rfl

/-- A token's logits with the first expert's taken out. -/
theorem masked_row (r : Fin 1024) :
    (fun e => k0_pay10 w1 w2 b1 b2 x (ix2 e r))
      = without (ext (logit (X r) W1 B1 W2 B2)) (top1 (logit (X r) W1 B1 W2 B2)) := by
  funext e
  pointwise [k0_pay10]
  rw [arg_real H r, select_expert, mask_bot, lg_real H r]
  rfl

/-- The greatest of what is left is the second expert's logit. -/
theorem masked_max (r : Fin 1024) :
    (Finset.univ : Finset (Fin 64)).fold max ⊥ (fun e => k0_pay10 w1 w2 b1 b2 x (ix2 e r))
      = (logit (X r) W1 B1 W2 B2 (top2 (logit (X r) W1 B1 W2 B2)) : EReal) := by
  rw [masked_row H r, fold_max_first]
  have h2 : first (without (ext (logit (X r) W1 B1 W2 B2)) (top1 (logit (X r) W1 B1 W2 B2)))
      ≠ top1 (logit (X r) W1 B1 W2 B2) := top2_ne _
  rw [without, if_neg h2]
  rfl

/-- The row of first weights. -/
theorem wts_real0 (r : Fin 1024) :
    wtsOf w1 b1 w2 b2 x (ix2 0 r) = (weight1 (logit (X r) W1 B1 W2 B2) : EReal) := by
  pointwise [wtsOf, k0_pay12, k0_pay11]
  rw [bits_bot, masked_max H r, max_real H r, ← EReal.coe_sub, Ideal.exp_coe, ← EReal.coe_one, ← EReal.coe_add,
    div_coe _ _ (by positivity)]
  rfl

/-- The row of second weights. -/
theorem wts_real1 (r : Fin 1024) :
    wtsOf w1 b1 w2 b2 x (ix2 1 r) = (weight2 (logit (X r) W1 B1 W2 B2) : EReal) := by
  pointwise [wtsOf, k0_pay12, k0_pay11]
  rw [bits_bot, masked_max H r, max_real H r, ← EReal.coe_sub, Ideal.exp_coe, ← EReal.coe_one, ← EReal.coe_add,
    div_coe _ _ (by positivity), ← EReal.coe_mul]
  rfl

/-- The row of first experts. -/
theorem idx_real0 (r : Fin 1024) :
    idxOf w1 b1 w2 b2 x (ix2 0 r) = BitVec.ofNat 32 (top1 (logit (X r) W1 B1 W2 B2)).val := by
  pointwise [idxOf, k0_pay13]
  exact arg_real H r

/-- The row of second experts. -/
theorem idx_real1 (r : Fin 1024) :
    idxOf w1 b1 w2 b2 x (ix2 1 r) = BitVec.ofNat 32 (top2 (logit (X r) W1 B1 W2 B2)).val := by
  pointwise [idxOf, k0_pay13, k0_pay11, rows]
  rw [bits_bot]
  have h := fold_min_first (without (ext (logit (X r) W1 B1 W2 B2)) (top1 (logit (X r) W1 B1 W2 B2))) _
    (fold_max_first _)
  rw [← masked_row H r] at h
  rw [h, masked_row H r]
  rfl

/-- The chunk's sum of expert `e`'s probabilities. -/
theorem prob_real (e : Fin 64) :
    probOf w1 b1 w2 b2 x (ix2 e 0) = ((∑ r, prob (logit (X r) W1 B1 W2 B2) e : ℝ) : EReal) := by
  pointwise [probOf, k0_pay14]
  rw [coe_sum]
  refine Finset.sum_congr rfl fun r _ => ?_
  simp only [lg_real H r, max_real H r, ← EReal.coe_sub, Ideal.exp_coe, ← coe_sum]
  have hm := mass_pos (logit (X r) W1 B1 W2 B2)
  unfold mass at hm
  rw [← EReal.coe_one, div_coe _ _ hm, ← EReal.coe_mul]
  rfl

/-- The chunk's number of tokens whose first expert is `e`. -/
theorem freq_real (e : Fin 64) :
    freqOf w1 b1 w2 b2 x (ix2 e 0) = ((∑ r, picked (logit (X r) W1 B1 W2 B2) e : ℝ) : EReal) := by
  pointwise [freqOf, k0_pay15, rows]
  rw [coe_sum]
  refine Finset.sum_congr rfl fun r _ => ?_
  rw [arg_real H r, select_expert]
  unfold picked
  split <;> simp

end chunk

end Cert.Router

end
-- ==== Proof.Arrays.lean ====
/-
  What the kernel's arrays hold after the run. Grid point `n` takes tokens `4096 n … 4096 n + 4095`, four chunks of 1024;
  so the chunks of the whole run are numbered `j = 4 n + k`, chunk `j` being rows `1024 j …` of the token array (`part`).
  The two row arrays are the chunks' rows side by side (`wtsAll`, `idxAll`), and the loss is computed from the two
  accumulators after the last point (`accF 7`, `accP 7`).
-/
module

public import proofs.«01_k».proof.Proof.Block

@[expose] public section

noncomputable section

namespace Cert.Router

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F] [Named F]

section Whole

variable (X : Vec F S32768x768 .f32) (W1 : Vec F S768x384 .f32) (b1 : Vec F S1x384 .f32) (W2 : Vec F S384x64 .f32) (b2 : Vec F S64x1 .f32)

/-- Chunk `j` of the token array: rows `1024 j … 1024 j + 1023`. -/
def part (j : ℕ) : Vec F S1024x768 .f32 :=
  fun y => X (ix2 ⟨(1024 * j + (y 0).val) % 32768, Nat.mod_lt _ (by decide)⟩ (y 1))

/-- The weights array: token `i`'s column is its chunk's. -/
def wtsAll : FVec F S2x32768 .f32 :=
  fun i => wtsOf W1 b1 W2 b2 (part X ((i 1).val / 1024)) (ix2 (i 0) ⟨(i 1).val % 1024, Nat.mod_lt _ (by decide)⟩)

/-- The array of chosen experts: token `i`'s column is its chunk's. -/
def idxAll : IVec S2x32768 32 :=
  fun i => idxOf W1 b1 W2 b2 (part X ((i 1).val / 1024)) (ix2 (i 0) ⟨(i 1).val % 1024, Nat.mod_lt _ (by decide)⟩)

/-- The accumulator of first-choice counts after point `n`. -/
def accF : ℕ → FVec F S64x1 .f32
  | 0 => addf k0_pay3 (total fun k => freqOf W1 b1 W2 b2 (part X (4 * 0 + k.val)))
  | n + 1 => addf (accF n) (total fun k => freqOf W1 b1 W2 b2 (part X (4 * (n + 1) + k.val)))

/-- The accumulator of router probabilities after point `n`. -/
def accP : ℕ → FVec F S64x1 .f32
  | 0 => addf k0_pay4 (total fun k => probOf W1 b1 W2 b2 (part X (4 * 0 + k.val)))
  | n + 1 => addf (accP n) (total fun k => probOf W1 b1 W2 b2 (part X (4 * (n + 1) + k.val)))

/-- The loss, from the accumulators after the last point. -/
def auxAll : FVec F S1x1 .f32 := k0_pay2 (accF X W1 b1 W2 b2 7) (accP X W1 b1 W2 b2 7)

end Whole

variable (m : (ℓ : Loc nD τ sig) → Buf (Elt F) ℓ) (ρ : Dev nD → PrngReg)

/-- The kernel's token array at launch. -/
def aX (c : Dev nD) : Vec F S32768x768 .f32 := m ((c : Thread nD τ).loc main_arg0)
/-- The first weight matrix at launch. -/
def aW1 (c : Dev nD) : Vec F S768x384 .f32 := m ((c : Thread nD τ).loc main_arg1)
/-- The first bias at launch, as the row the region is handed. -/
def aB1 (c : Dev nD) : Vec F S1x384 .f32 := shapeCast S1x384 (m ((c : Thread nD τ).loc main_arg2) : Vec F S384 .f32) shapeCasts_S384_S1x384
/-- The second weight matrix at launch. -/
def aW2 (c : Dev nD) : Vec F S384x64 .f32 := m ((c : Thread nD τ).loc main_arg3)
/-- The second bias at launch, as the column the region is handed. -/
def aB2 (c : Dev nD) : Vec F S64x1 .f32 := shapeCast S64x1 (m ((c : Thread nD τ).loc main_arg4) : Vec F S64 .f32) shapeCasts_S64_S64x1

/-- The region finds the first bias as a row. -/
theorem V_b1 (c : Dev nD) : V m c main_call0_v0 = aB1 m c := by
  show StableHlo.after (List.flatten [hostOps0]) _ _ = _
  simp only [List.flatten_cons, List.flatten_nil, List.append_nil]
  after_results_simp
  rfl

/-- The region finds the second bias as a column. -/
theorem V_b2 (c : Dev nD) : V m c main_call0_v1 = aB2 m c := by
  show StableHlo.after (List.flatten [hostOps0]) _ _ = _
  simp only [List.flatten_cons, List.flatten_nil, List.append_nil]
  after_results_simp
  rfl

/-- The token window's block at point `t` starts at row `4096 t`. -/
theorem index0 : ∀ t : Fin cfg0.N, win0_0.index t (0 : Fin 2) = t.val ∧ win0_0.index t (1 : Fin 2) = 0 :=
  (by decide +kernel : ∀ t : Fin grid0.N, _)

/-- The other operands are staged whole: their block index is zero. -/
theorem index1 : ∀ t : Fin cfg0.N, (∀ a, win0_1.index t a = 0) ∧ (∀ a, win0_2.index t a = 0) ∧ (∀ a, win0_3.index t a = 0)
    ∧ (∀ a, win0_4.index t a = 0) :=
  (by decide +kernel : ∀ t : Fin grid0.N, _)

/-- Chunk `k` of the token block at point `t` is chunk `4 t + k` of the token array. -/
theorem chunk_iblk (c : Dev nD) (t : Fin cfg0.N) (k : Fin 4) :
    chunk (F := F) k (iblk m c 0 t) = part (aX m c) (4 * t.val + k.val) := by
  have ht : t.val < 8 := Nat.lt_of_lt_of_eq t.isLt N_0
  obtain ⟨e0, e1⟩ := index0 t
  funext y
  have hy : (y 0).val < 1024 := idx2_lt0 y
  show V m c main_arg0 (((cfg0.win 0).blk t).view.emb (ix2 ⟨1024 * k.val + (y 0).val, _⟩ (y 1))) = aX m c (ix2 _ (y 1))
  rw [V_main_arg0]
  refine congrArg (m ((c : Thread nD τ).loc main_arg0)) (funext fun a => Fin.ext ?_)
  match a with
  | ⟨0, _⟩ =>
    show win0_0.index t (0 : Fin 2) * 4096 + 1 * (1024 * k.val + (y 0).val) = (1024 * (4 * t.val + k.val) + (y 0).val) % 32768
    omega
  | ⟨1, _⟩ =>
    show win0_0.index t (1 : Fin 2) * 768 + 1 * (y 1).val = (y 1).val
    omega

/-- The first weight matrix is staged whole at every point. -/
theorem iblk1 (c : Dev nD) (t : Fin cfg0.N) : iblk m c 1 t = aW1 m c := by
  funext y
  show V m c main_arg1 (((cfg0.win 1).blk t).view.emb y) = _
  rw [V_main_arg1]
  refine congrArg (m ((c : Thread nD τ).loc main_arg1)) (funext fun a => Fin.ext ?_)
  show win0_1.index t a * _ + 1 * (y a).val = (y a).val
  rw [(index1 t).1 a]; omega

/-- The first bias' row is staged whole at every point. -/
theorem iblk2 (c : Dev nD) (t : Fin cfg0.N) : iblk m c 2 t = aB1 m c := by
  funext y
  show V m c main_call0_v0 (((cfg0.win 2).blk t).view.emb y) = _
  rw [V_b1]
  refine congrArg (aB1 m c) (funext fun a => Fin.ext ?_)
  show win0_2.index t a * _ + 1 * (y a).val = (y a).val
  rw [(index1 t).2.1 a]; omega

/-- The second weight matrix is staged whole at every point. -/
theorem iblk3 (c : Dev nD) (t : Fin cfg0.N) : iblk m c 3 t = aW2 m c := by
  funext y
  show V m c main_arg3 (((cfg0.win 3).blk t).view.emb y) = _
  rw [V_main_arg3]
  refine congrArg (m ((c : Thread nD τ).loc main_arg3)) (funext fun a => Fin.ext ?_)
  show win0_3.index t a * _ + 1 * (y a).val = (y a).val
  rw [(index1 t).2.2.1 a]; omega

/-- The second bias' column is staged whole at every point. -/
theorem iblk4 (c : Dev nD) (t : Fin cfg0.N) : iblk m c 4 t = aB2 m c := by
  funext y
  show V m c main_call0_v1 (((cfg0.win 4).blk t).view.emb y) = _
  rw [V_b2]
  refine congrArg (aB2 m c) (funext fun a => Fin.ext ?_)
  show win0_4.index t a * _ + 1 * (y a).val = (y a).val
  rw [(index1 t).2.2.2 a]; omega

/-- What point `n` leaves: the joined rows of its chunks, the accumulators' sums so far, and at the last point the loss. -/
theorem after_point (c : Dev nD) (n : ℕ) : ∀ hn : n < cfg0.N,
    (outsAt0 m c n hn).1 = joined (fun k => wtsOf (aW1 m c) (aB1 m c) (aW2 m c) (aB2 m c) (part (aX m c) (4 * n + k.val)))
      ∧ (outsAt0 m c n hn).2.1 = joined (fun k => idxOf (F := F) (aW1 m c) (aB1 m c) (aW2 m c) (aB2 m c) (part (aX m c) (4 * n + k.val)))
      ∧ (outsAt0 m c n hn).2.2.2.1 = accF (aX m c) (aW1 m c) (aB1 m c) (aW2 m c) (aB2 m c) n
      ∧ (outsAt0 m c n hn).2.2.2.2 = accP (aX m c) (aW1 m c) (aB1 m c) (aW2 m c) (aB2 m c) n
      ∧ (n = 7 → (outsAt0 m c n hn).2.2.1 = auxAll (aX m c) (aW1 m c) (aB1 m c) (aW2 m c) (aB2 m c)) := by
  induction n with
  | zero =>
    intro hn
    have h1 : ¬(⟨0, hn⟩ : Fin cfg0.N).val % 8 = 7 := fun h => absurd h (by decide : ¬0 % 8 = 7)
    rw [outsAt0_A m c ⟨0, hn⟩ rfl h1]
    obtain ⟨b5, b6, bF, bP⟩ := body_A (F := F) c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩)
      (ms0_6 ⟨0, hn⟩) (hs0_6 ⟨0, hn⟩) (ms0_7 ⟨0, hn⟩) (hs0_7 ⟨0, hn⟩) scM0_0 (Memref.isWhole_whole _) scM0_1 (Memref.isWhole_whole _)
      (iblk m c 0 ⟨0, hn⟩) (iblk m c 1 ⟨0, hn⟩) (iblk m c 2 ⟨0, hn⟩) (iblk m c 3 ⟨0, hn⟩) (iblk m c 4 ⟨0, hn⟩)
      ((hcond0_0 ⟨0, hn⟩).mpr rfl) (fun h => h1 ((hcond0_1 ⟨0, hn⟩).mp h))
    dsimp only
    rw [b5, b6, bF, bP]
    refine ⟨?_, ?_, ?_, ?_, fun h => absurd h (by decide)⟩
    all_goals simp only [chunk_iblk, iblk1, iblk2, iblk3, iblk4, accF, accP]
  | succ n ih =>
    intro hn
    have hlt : n + 1 < 8 := Nat.lt_of_lt_of_eq hn N_0
    obtain ⟨-, -, pF, pP, -⟩ := ih (by omega)
    change (outsAt0 m c (n + 1 - 1) _).2.2.2.1 = _ at pF
    change (outsAt0 m c (n + 1 - 1) _).2.2.2.2 = _ at pP
    have h0 : ¬(⟨n + 1, hn⟩ : Fin cfg0.N).val % 8 = 0 := by dsimp only; omega
    by_cases h1 : (⟨n + 1, hn⟩ : Fin cfg0.N).val % 8 = 7
    · rw [outsAt0_C m c ⟨n + 1, hn⟩ h0 h1]
      obtain ⟨b5, b6, bF, bP, b7⟩ := body_C (F := F) c (grid0.coords ⟨n + 1, hn⟩) (ms0_0 ⟨n + 1, hn⟩) (hs0_0 ⟨n + 1, hn⟩) (ms0_1 ⟨n + 1, hn⟩)
        (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
        (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩)
        scM0_0 (Memref.isWhole_whole _) scM0_1 (Memref.isWhole_whole _)
        (iblk m c 0 ⟨n + 1, hn⟩) (iblk m c 1 ⟨n + 1, hn⟩) (iblk m c 2 ⟨n + 1, hn⟩) (iblk m c 3 ⟨n + 1, hn⟩) (iblk m c 4 ⟨n + 1, hn⟩)
        (outsAt0 m c (n + 1 - 1) (by omega)).2.2.2.1 (outsAt0 m c (n + 1 - 1) (by omega)).2.2.2.2
        (fun h => h0 ((hcond0_0 ⟨n + 1, hn⟩).mp h)) ((hcond0_1 ⟨n + 1, hn⟩).mpr h1)
      have e : n = 6 := by dsimp only at h1; omega
      subst e
      dsimp only
      rw [b5, b6, bF, bP, b7]
      refine ⟨?_, ?_, ?_, ?_, fun _ => ?_⟩
      all_goals simp only [chunk_iblk, iblk1, iblk2, iblk3, iblk4, pF, pP, auxAll, accF, accP]
    · rw [outsAt0_B m c ⟨n + 1, hn⟩ h0 h1]
      obtain ⟨b5, b6, bF, bP⟩ := body_B (F := F) c (grid0.coords ⟨n + 1, hn⟩) (ms0_0 ⟨n + 1, hn⟩) (hs0_0 ⟨n + 1, hn⟩) (ms0_1 ⟨n + 1, hn⟩)
        (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
        (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩)
        scM0_0 (Memref.isWhole_whole _) scM0_1 (Memref.isWhole_whole _)
        (iblk m c 0 ⟨n + 1, hn⟩) (iblk m c 1 ⟨n + 1, hn⟩) (iblk m c 2 ⟨n + 1, hn⟩) (iblk m c 3 ⟨n + 1, hn⟩) (iblk m c 4 ⟨n + 1, hn⟩)
        (outsAt0 m c (n + 1 - 1) (by omega)).2.2.2.1 (outsAt0 m c (n + 1 - 1) (by omega)).2.2.2.2
        (fun h => h0 ((hcond0_0 ⟨n + 1, hn⟩).mp h)) (fun h => h1 ((hcond0_1 ⟨n + 1, hn⟩).mp h))
      dsimp only
      rw [b5, b6, bF, bP]
      refine ⟨?_, ?_, ?_, ?_, fun h => absurd (show (n + 1) % 8 = 7 by omega) h1⟩
      all_goals simp only [chunk_iblk, iblk1, iblk2, iblk3, iblk4, pF, pP, accF, accP]

end Cert.Router
-- ==== Proof.KernelRun.lean ====
/-
  The kernel's run: the blocks the points write back tile the two row arrays, the loss is written back once, and the host
  operations after the region turn the arrays on their side. The results and the arguments at the end, for any float type.
-/
module

public import proofs.«01_k».proof.Proof.Arrays

@[expose] public section

noncomputable section

namespace Cert.Router

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F] [Named F]
variable (m : (ℓ : Loc nD τ sig) → Buf (Elt F) ℓ) (ρ : Dev nD → PrngReg)

/-- The row arrays' block at point `t` is the columns from `4096 t` on; the loss has one block. -/
theorem indexO : ∀ t : Fin cfg0.N, (win0_5.index t (0 : Fin 2) = 0 ∧ win0_5.index t (1 : Fin 2) = t.val)
    ∧ (win0_6.index t (0 : Fin 2) = 0 ∧ win0_6.index t (1 : Fin 2) = t.val)
    ∧ (win0_7.index t (0 : Fin 2) = 0 ∧ win0_7.index t (1 : Fin 2) = 0) :=
  (by decide +kernel : ∀ t : Fin grid0.N, _)

/-- Every point writes its blocks of the row arrays back. -/
theorem flushO : ∀ t : Fin cfg0.N, (cfg0.win 5).flush t = true ∧ (cfg0.win 6).flush t = true :=
  (by decide +kernel : ∀ t : Fin grid0.N, _)

/-- The rows joined over a point's four chunks are the whole array's columns from `4096 n` on. -/
theorem joined_columns {α : Type} (n : ℕ) (g : ℕ → S2x1024.Idx → α) (y : S2x4096.Idx) (h : 4096 * n + (y 1).val < 32768) :
    joined (fun k => g (4 * n + k.val)) y
      = g ((4096 * n + (y 1).val) / 1024) (ix2 (y 0) ⟨(4096 * n + (y 1).val) % 1024, Nat.mod_lt _ (by decide)⟩) := by
  have e1 : (4096 * n + (y 1).val) / 1024 = 4 * n + (y 1).val / 1024 := by omega
  have e2 : (4096 * n + (y 1).val) % 1024 = (y 1).val % 1024 := by omega
  unfold joined
  simp only [e1, e2]

/-- The point whose block holds column `j`. -/
abbrev pointOf (j : ℕ) (h : j < 32768) : Fin cfg0.N := ⟨j / 4096, lt_of_lt_of_eq (by omega) N_0.symm⟩

/-- The weights array after the run. -/
theorem final5 (c : Dev nD) : (dats m 0 c).arrAt 5 cfg0.N = wtsAll (aX m c) (aW1 m c) (aB1 m c) (aW2 m c) (aB2 m c) := by
  refine (dats m 0 c).arrAt_eq_of_cover 5 _ (fun t _ => ?_) (fun i => ?_)
  · have ht : t.val < 8 := Nat.lt_of_lt_of_eq t.isLt N_0
    obtain ⟨⟨e0, e1⟩, -⟩ := indexO t
    show (cfg0.win 5).cut (grid0.coords t) ((dats m 0 c).after 5 t) = _
    rw [after0_5, (after_point m c t.val t.isLt).1]
    funext y
    have hy : (y 1).val < 4096 := idx2_lt1 y
    refine (joined_columns t.val (fun j => wtsOf (aW1 m c) (aB1 m c) (aW2 m c) (aB2 m c) (part (aX m c) j)) y (by omega)).trans ?_
    have hi : ((cfg0.win 5).blk t).view.emb y = (ix2 (y 0) ⟨4096 * t.val + (y 1).val, by omega⟩ : S2x32768.Idx) := by
      funext a; apply Fin.ext
      match a with
      | ⟨0, _⟩ => show win0_5.index t (0 : Fin 2) * 2 + 1 * (y 0).val = (y 0).val; omega
      | ⟨1, _⟩ => show win0_5.index t (1 : Fin 2) * 4096 + 1 * (y 1).val = 4096 * t.val + (y 1).val; omega
    show _ = wtsAll _ _ _ _ _ (((cfg0.win 5).blk t).view.emb y)
    rw [hi]
    rfl
  · have h1 : (i 1).val < 32768 := idx2_lt1 i
    have h0 : (i 0).val < 2 := idx2_lt0 i
    refine ⟨pointOf (i 1).val h1, (flushO _).1, ?_⟩
    obtain ⟨⟨e0, e1⟩, -⟩ := indexO (pointOf (i 1).val h1)
    show i ∈ ((View.whole main_call0_v2_0).slice (win0_5.rect (pointOf (i 1).val h1))).set
    rw [View.set_slice_whole, Rect.mem_set_unit]
    intro a
    match a with
    | ⟨0, _⟩ => show win0_5.index _ (0 : Fin 2) * 2 ≤ (i 0).val ∧ (i 0).val < win0_5.index _ (0 : Fin 2) * 2 + 2; omega
    | ⟨1, _⟩ =>
      show win0_5.index _ (1 : Fin 2) * 4096 ≤ (i 1).val ∧ (i 1).val < win0_5.index _ (1 : Fin 2) * 4096 + 4096
      dsimp only at e1; omega

/-- The array of chosen experts after the run. -/
theorem final6 (c : Dev nD) : (dats m 0 c).arrAt 6 cfg0.N = idxAll (F := F) (aX m c) (aW1 m c) (aB1 m c) (aW2 m c) (aB2 m c) := by
  refine (dats m 0 c).arrAt_eq_of_cover 6 _ (fun t _ => ?_) (fun i => ?_)
  · have ht : t.val < 8 := Nat.lt_of_lt_of_eq t.isLt N_0
    obtain ⟨-, ⟨e0, e1⟩, -⟩ := indexO t
    show (cfg0.win 6).cut (grid0.coords t) ((dats m 0 c).after 6 t) = _
    rw [after0_6, (after_point m c t.val t.isLt).2.1]
    funext y
    have hy : (y 1).val < 4096 := idx2_lt1 y
    refine (joined_columns t.val (fun j => idxOf (F := F) (aW1 m c) (aB1 m c) (aW2 m c) (aB2 m c) (part (aX m c) j)) y (by omega)).trans ?_
    have hi : ((cfg0.win 6).blk t).view.emb y = (ix2 (y 0) ⟨4096 * t.val + (y 1).val, by omega⟩ : S2x32768.Idx) := by
      funext a; apply Fin.ext
      match a with
      | ⟨0, _⟩ => show win0_6.index t (0 : Fin 2) * 2 + 1 * (y 0).val = (y 0).val; omega
      | ⟨1, _⟩ => show win0_6.index t (1 : Fin 2) * 4096 + 1 * (y 1).val = 4096 * t.val + (y 1).val; omega
    show _ = idxAll (F := F) _ _ _ _ _ (((cfg0.win 6).blk t).view.emb y)
    rw [hi]
    rfl
  · have h1 : (i 1).val < 32768 := idx2_lt1 i
    have h0 : (i 0).val < 2 := idx2_lt0 i
    refine ⟨pointOf (i 1).val h1, (flushO _).2, ?_⟩
    obtain ⟨-, ⟨e0, e1⟩, -⟩ := indexO (pointOf (i 1).val h1)
    show i ∈ ((View.whole main_call0_v2_1).slice (win0_6.rect (pointOf (i 1).val h1))).set
    rw [View.set_slice_whole, Rect.mem_set_unit]
    intro a
    match a with
    | ⟨0, _⟩ => show win0_6.index _ (0 : Fin 2) * 2 ≤ (i 0).val ∧ (i 0).val < win0_6.index _ (0 : Fin 2) * 2 + 2; omega
    | ⟨1, _⟩ =>
      show win0_6.index _ (1 : Fin 2) * 4096 ≤ (i 1).val ∧ (i 1).val < win0_6.index _ (1 : Fin 2) * 4096 + 4096
      dsimp only at e1; omega

/-- The loss after the run. -/
theorem final7 (c : Dev nD) : (dats m 0 c).arrAt 7 cfg0.N = auxAll (aX m c) (aW1 m c) (aB1 m c) (aW2 m c) (aB2 m c) := by
  refine (dats m 0 c).arrAt_eq_of_cover 7 _ (fun t hf => ?_) (fun i => ?_)
  · have ht : t.val < 8 := Nat.lt_of_lt_of_eq t.isLt N_0
    have h7 : t.val = 7 := by have := (flush0_7 t).mp hf; omega
    obtain ⟨-, -, e0, e1⟩ := indexO t
    show (cfg0.win 7).cut (grid0.coords t) ((dats m 0 c).after 7 t) = _
    rw [after0_7, (after_point m c t.val t.isLt).2.2.2.2 h7]
    funext y
    have hi : ((cfg0.win 7).blk t).view.emb y = (cfg0.win 7).xinj (grid0.coords t) y := by
      funext a; apply Fin.ext
      match a with
      | ⟨0, _⟩ => show win0_7.index t (0 : Fin 2) * 1 + 1 * (y 0).val = (y 0).val; omega
      | ⟨1, _⟩ => show win0_7.index t (1 : Fin 2) * 1 + 1 * (y 1).val = (y 1).val; omega
    show auxAll _ _ _ _ _ ((cfg0.win 7).xinj (grid0.coords t) y) = auxAll _ _ _ _ _ (((cfg0.win 7).blk t).view.emb y)
    rw [hi]
  · have h1 : (i 1).val < 1 := idx2_lt1 i
    have h0 : (i 0).val < 1 := idx2_lt0 i
    have h7 : 7 < cfg0.N := lt_of_lt_of_eq (by decide) N_0.symm
    refine ⟨⟨7, h7⟩, (flush0_7 _).mpr rfl, ?_⟩
    obtain ⟨-, -, e0, e1⟩ := indexO ⟨7, h7⟩
    show i ∈ ((View.whole main_call0_v2_2).slice (win0_7.rect ⟨7, h7⟩)).set
    rw [View.set_slice_whole, Rect.mem_set_unit]
    intro a
    match a with
    | ⟨0, _⟩ => show win0_7.index _ (0 : Fin 2) * 1 ≤ (i 0).val ∧ (i 0).val < win0_7.index _ (0 : Fin 2) * 1 + 1; omega
    | ⟨1, _⟩ => show win0_7.index _ (1 : Fin 2) * 1 ≤ (i 1).val ∧ (i 1).val < win0_7.index _ (1 : Fin 2) * 1 + 1; omega

/-- The kernel's weights at the end: the weights array on its side. -/
def outW (c : Dev nD) : FVec F S32768x2 .f32 :=
  transpose S32768x2 [1, 0] (wtsAll (aX m c) (aW1 m c) (aB1 m c) (aW2 m c) (aB2 m c)) transposes_S2x32768_S32768x2_1_0
/-- The kernel's chosen experts at the end: their array on its side. -/
def outI (c : Dev nD) : IVec S32768x2 32 :=
  transpose S32768x2 [1, 0] (idxAll (F := F) (aX m c) (aW1 m c) (aB1 m c) (aW2 m c) (aB2 m c)) transposes_S2x32768_S32768x2_1_0
/-- The kernel's loss at the end, as a scalar. -/
def outA (c : Dev nD) : FVec F S_ .f32 :=
  shapeCast S_ (auxAll (aX m c) (aW1 m c) (aB1 m c) (aW2 m c) (aB2 m c)) shapeCasts_S1x1_S_

/-- The windows' arrays are all different. -/
theorem arrays_inj : Function.Injective (Pipeline.arrRef spec0) := by decide

/-- The weights result, read through the host operations after the region. -/
theorem tail_w (c : Dev nD) : Pipeline.afterTail₀ cfgs (dats m) 0 (V0 m) [hostOps1] c main_v0_0 = outW m c := by
  unfold Pipeline.afterTail₀
  simp only [List.flatten_cons, List.flatten_nil, List.append_nil]
  after_results_simp
  exact congrArg (transpose S32768x2 [1, 0] · transposes_S2x32768_S32768x2_1_0)
    ((Pipeline.withArrays_arr spec0 arrays_inj c (V0 m c) (fun w => (dats m 0 c).arrAt w cfg0.N) 5).trans (final5 m c))

/-- The result of chosen experts, read through the host operations after the region. -/
theorem tail_i (c : Dev nD) : Pipeline.afterTail₀ cfgs (dats m) 0 (V0 m) [hostOps1] c main_v0_1 = outI m c := by
  unfold Pipeline.afterTail₀
  simp only [List.flatten_cons, List.flatten_nil, List.append_nil]
  after_results_simp
  exact congrArg (transpose S32768x2 [1, 0] · transposes_S2x32768_S32768x2_1_0)
    ((Pipeline.withArrays_arr spec0 arrays_inj c (V0 m c) (fun w => (dats m 0 c).arrAt w cfg0.N) 6).trans (final6 m c))

/-- The loss result, read through the host operations after the region. -/
theorem tail_a (c : Dev nD) : Pipeline.afterTail₀ cfgs (dats m) 0 (V0 m) [hostOps1] c main_v0_2 = outA m c := by
  unfold Pipeline.afterTail₀
  simp only [List.flatten_cons, List.flatten_nil, List.append_nil]
  after_results_simp
  exact congrArg (shapeCast S_ · shapeCasts_S1x1_S_)
    ((Pipeline.withArrays_arr spec0 arrays_inj c (V0 m c) (fun w => (dats m 0 c).arrAt w cfg0.N) 7).trans (final7 m c))

/-- The run: the three results, and the arguments as launched. -/
theorem kernel_run : θ_run defs (onTc (τ := τ) (main (F := F))) ⟨m, fun _ => 0, ρ⟩ fun r => ∀ c : Dev nD,
      r.2.mem ((c : Thread nD τ).loc main_v0_0) = outW m c
      ∧ r.2.mem ((c : Thread nD τ).loc main_v0_1) = outI m c
      ∧ r.2.mem ((c : Thread nD τ).loc main_v0_2) = outA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h.1 c).2 main_v0_0 (Pipeline.mem_restRefs_of main_v0_0 (by decide) (by decide))).trans (tail_w m c),
      ((h.1 c).2 main_v0_1 (Pipeline.mem_restRefs_of main_v0_1 (by decide) (by decide))).trans (tail_i m c),
      ((h.1 c).2 main_v0_2 (Pipeline.mem_restRefs_of main_v0_2 (by decide) (by decide))).trans (tail_a m c),
      h.2 c⟩)
    (θ_run_and (run_main m ρ) (unchanged m ρ))

end Cert.Router
-- ==== Proof.ArraysMath.lean ====
/-
  The kernel's whole arrays over the reals: the rows of weights and experts token by token, and the loss.
-/
module

public import proofs.«01_k».proof.Proof.KerMath
public import proofs.«01_k».proof.Proof.KernelRun

@[expose] public section

noncomputable section

namespace Cert.Router

open Cert.KernelIdeal Cert.KernelIdeal.Gen Idealize.ShloMosaic

/-- Row `r` of chunk `j`, as a token. -/
def tok (j : ℕ) (r : Fin 1024) : Fin 32768 := ⟨(1024 * j + r.val) % 32768, Nat.mod_lt _ (by decide)⟩

/-- A token's chunk and row give the token back. -/
theorem tok_self (t : Fin 32768) : tok (t.val / 1024) ⟨t.val % 1024, Nat.mod_lt _ (by decide)⟩ = t := by
  have := t.isLt
  exact Fin.ext (by show (1024 * (t.val / 1024) + t.val % 1024) % 32768 = t.val; omega)

/-- The tokens are the rows of the 32 chunks. -/
theorem sum_tok (f : Fin 32768 → ℝ) : ∑ j ∈ Finset.range 32, ∑ r, f (tok j r) = ∑ t, f t := by
  rw [Finset.sum_range, ← Fintype.sum_prod_type' (f := fun (j : Fin 32) (r : Fin 1024) => f (tok j.val r))]
  refine Fintype.sum_equiv (finProdFinEquiv.trans (finCongr (by norm_num : 32 * 1024 = 32768))) _ _ fun p => ?_
  refine congrArg f (Fin.ext ?_)
  have h1 := p.1.isLt
  have h2 := p.2.isLt
  show (1024 * p.1.val + p.2.val) % 32768 = p.2.val + 1024 * p.1.val
  omega

section whole

variable {x : FVec Ideal S32768x768 .f32} {w1 : FVec Ideal S768x384 .f32} {b1 : FVec Ideal S1x384 .f32}
  {w2 : FVec Ideal S384x64 .f32} {b2 : FVec Ideal S64x1 .f32} {X : Fin 32768 → Fin 768 → ℝ}
  {W1 : Fin 768 → Fin 384 → ℝ} {B1 : Fin 384 → ℝ} {W2 : Fin 384 → Fin 64 → ℝ} {B2 : Fin 64 → ℝ}
  (hx : ∀ t d, x (ix2 t d) = (X t d : EReal)) (hw1 : ∀ d k, w1 (ix2 d k) = (W1 d k : EReal))
  (hb1 : ∀ k, b1 (ix2 0 k) = (B1 k : EReal)) (hw2 : ∀ k e, w2 (ix2 k e) = (W2 k e : EReal))
  (hb2 : ∀ e, b2 (ix2 e 0) = (B2 e : EReal))
include hx hw1 hb1 hw2 hb2

/-- A chunk reads its tokens' rows. -/
theorem part_reads (j : ℕ) : Reads w1 b1 w2 b2 (part (F := Ideal) x j) (fun r => X (tok j r)) W1 B1 W2 B2 where
  hx r d := by
    rw [← hx, ix2_eq_valueIdx (tok j r) d]
    rfl
  hw1 := hw1
  hb1 := hb1
  hw2 := hw2
  hb2 := hb2

/-- The first weight of a token. -/
theorem wtsAll_real0 (t : Fin 32768) :
    wtsAll (F := Ideal) x w1 b1 w2 b2 (ix2 0 t) = (weight1 (logit (X t) W1 B1 W2 B2) : EReal) := by
  have h := wts_real0 (part_reads hx hw1 hb1 hw2 hb2 (t.val / 1024)) ⟨t.val % 1024, Nat.mod_lt _ (by decide)⟩
  rw [tok_self, ix2_eq_valueIdx] at h
  exact h

/-- The second weight of a token. -/
theorem wtsAll_real1 (t : Fin 32768) :
    wtsAll (F := Ideal) x w1 b1 w2 b2 (ix2 1 t) = (weight2 (logit (X t) W1 B1 W2 B2) : EReal) := by
  have h := wts_real1 (part_reads hx hw1 hb1 hw2 hb2 (t.val / 1024)) ⟨t.val % 1024, Nat.mod_lt _ (by decide)⟩
  rw [tok_self, ix2_eq_valueIdx] at h
  exact h

/-- The first expert of a token. -/
theorem idxAll_real0 (t : Fin 32768) :
    idxAll (F := Ideal) x w1 b1 w2 b2 (ix2 0 t) = BitVec.ofNat 32 (top1 (logit (X t) W1 B1 W2 B2)).val := by
  have h := idx_real0 (part_reads hx hw1 hb1 hw2 hb2 (t.val / 1024)) ⟨t.val % 1024, Nat.mod_lt _ (by decide)⟩
  rw [tok_self, ix2_eq_valueIdx] at h
  exact h

/-- The second expert of a token. -/
theorem idxAll_real1 (t : Fin 32768) :
    idxAll (F := Ideal) x w1 b1 w2 b2 (ix2 1 t) = BitVec.ofNat 32 (top2 (logit (X t) W1 B1 W2 B2)).val := by
  have h := idx_real1 (part_reads hx hw1 hb1 hw2 hb2 (t.val / 1024)) ⟨t.val % 1024, Nat.mod_lt _ (by decide)⟩
  rw [tok_self, ix2_eq_valueIdx] at h
  exact h

omit hx hw1 hb1 hw2 hb2 in
/-- A point's four chunks, added up. -/
theorem total_real (g : ℕ → FVec Ideal S64x1 .f32) (G : ℕ → ℝ) (e : Fin 64)
    (hg : ∀ j, g j (ix2 e 0) = (G j : EReal)) (n : ℕ) :
    total (fun k => g (4 * n + k.val)) (ix2 e 0)
      = ((G (4 * n) + G (4 * n + 1) + G (4 * n + 2) + G (4 * n + 3) : ℝ) : EReal) := by
  have h : total (fun k => g (4 * n + k.val)) (ix2 e 0)
      = Ideal.ofBits .f32 0x00000000#32 + g (4 * n) (ix2 e 0) + g (4 * n + 1) (ix2 e 0) + g (4 * n + 2) (ix2 e 0)
        + g (4 * n + 3) (ix2 e 0) := rfl
  have h0 : Ideal.ofBits .f32 0x00000000#32 = 0 := by simp [Ideal.ofBits, Ideal.ieee]
  rw [h, h0, zero_add, hg, hg, hg, hg, ← EReal.coe_add, ← EReal.coe_add, ← EReal.coe_add]

omit hx hw1 hb1 hw2 hb2 in
/-- Four more terms of a sum over the chunks. -/
theorem sum_four (G : ℕ → ℝ) (n : ℕ) :
    ∑ j ∈ Finset.range (4 * n), G j + (G (4 * n) + G (4 * n + 1) + G (4 * n + 2) + G (4 * n + 3))
      = ∑ j ∈ Finset.range (4 * (n + 1)), G j := by
  rw [show 4 * (n + 1) = 4 * n + 1 + 1 + 1 + 1 by omega]
  simp only [Finset.sum_range_succ]
  ring

/-- The counts of first choices after point `n`. -/
theorem accF_real (e : Fin 64) (n : ℕ) :
    accF (F := Ideal) x w1 b1 w2 b2 n (ix2 e 0)
      = ((∑ j ∈ Finset.range (4 * (n + 1)), ∑ r, picked (logit (X (tok j r)) W1 B1 W2 B2) e : ℝ) : EReal) := by
  have hg := fun j => freq_real (part_reads hx hw1 hb1 hw2 hb2 j) e
  have ht := total_real _ _ e hg
  have h0 : (k0_pay3 (F := Ideal)) (ix2 e 0) = ((0 : ℝ) : EReal) := by
    rw [EReal.coe_zero]
    pointwise [k0_pay3]
  induction n with
  | zero =>
    show k0_pay3 (F := Ideal) (ix2 e 0) + total (F := Ideal) _ (ix2 e 0) = _
    rw [h0, ht 0, ← EReal.coe_add, ← sum_four]
    simp
  | succ n ih =>
    show accF (F := Ideal) x w1 b1 w2 b2 n (ix2 e 0) + total (F := Ideal) _ (ix2 e 0) = _
    rw [ih, ht (n + 1), ← EReal.coe_add, ← sum_four _ (n + 1)]

/-- The probabilities' sums after point `n`. -/
theorem accP_real (e : Fin 64) (n : ℕ) :
    accP (F := Ideal) x w1 b1 w2 b2 n (ix2 e 0)
      = ((∑ j ∈ Finset.range (4 * (n + 1)), ∑ r, prob (logit (X (tok j r)) W1 B1 W2 B2) e : ℝ) : EReal) := by
  have hg := fun j => prob_real (part_reads hx hw1 hb1 hw2 hb2 j) e
  have ht := total_real _ _ e hg
  have h0 : (k0_pay4 (F := Ideal)) (ix2 e 0) = ((0 : ℝ) : EReal) := by
    rw [EReal.coe_zero]
    pointwise [k0_pay4]
  induction n with
  | zero =>
    show k0_pay4 (F := Ideal) (ix2 e 0) + total (F := Ideal) _ (ix2 e 0) = _
    rw [h0, ht 0, ← EReal.coe_add, ← sum_four]
    simp
  | succ n ih =>
    show accP (F := Ideal) x w1 b1 w2 b2 n (ix2 e 0) + total (F := Ideal) _ (ix2 e 0) = _
    rw [ih, ht (n + 1), ← EReal.coe_add, ← sum_four _ (n + 1)]

/-- The loss. -/
theorem auxAll_real : auxAll (F := Ideal) x w1 b1 w2 b2 (ix2 0 0)
    = (lossOf fun t => logit (X t) W1 B1 W2 B2 : EReal) := by
  have hF := fun e => (accF_real hx hw1 hb1 hw2 hb2 e 7).trans
    (congrArg (fun v : ℝ => (v : EReal)) (sum_tok fun t => picked (logit (X t) W1 B1 W2 B2) e))
  have hP := fun e => (accP_real hx hw1 hb1 hw2 hb2 e 7).trans
    (congrArg (fun v : ℝ => (v : EReal)) (sum_tok fun t => prob (logit (X t) W1 B1 W2 B2) e))
  unfold auxAll
  generalize accF (F := Ideal) x w1 b1 w2 b2 7 = f at hF ⊢
  generalize accP (F := Ideal) x w1 b1 w2 b2 7 = p at hP ⊢
  pointwise [k0_pay2]
  rw [bits_scale]
  simp only [hF, hP, Finset.univ_unique, Finset.sum_singleton, ← EReal.coe_mul, ← coe_sum]
  refine congrArg _ ?_
  unfold lossOf
  rw [Finset.mul_sum, Finset.mul_sum]
  exact Finset.sum_congr rfl fun e _ => by ring

end whole

end Cert.Router

end
-- ==== Proof.Results.lean ====
/-
  The kernel's three results over the reals, place by place.
-/
module

public import proofs.«01_k».proof.Proof.ArraysMath

@[expose] public section

noncomputable section

namespace Cert.Router

open Cert.KernelIdeal Cert.KernelIdeal.Gen Idealize.ShloMosaic Idealize.ShloMosaic.TcCoe

section

variable {m : (ℓ : Loc nD τ sig) → Buf (Elt Ideal) ℓ} {c : Dev nD} {X : Fin 32768 → Fin 768 → ℝ}
  {W1 : Fin 768 → Fin 384 → ℝ} {B1 : Fin 384 → ℝ} {W2 : Fin 384 → Fin 64 → ℝ} {B2 : Fin 64 → ℝ}
  (hx : ∀ t d, (m ((c : Thread nD τ).loc main_arg0) : FVec Ideal S32768x768 .f32) (ix2 t d) = (X t d : EReal))
  (hw1 : ∀ d k, (m ((c : Thread nD τ).loc main_arg1) : FVec Ideal S768x384 .f32) (ix2 d k) = (W1 d k : EReal))
  (hb1 : ∀ k, (m ((c : Thread nD τ).loc main_arg2) : FVec Ideal S384 .f32) (ix1 k) = (B1 k : EReal))
  (hw2 : ∀ k e, (m ((c : Thread nD τ).loc main_arg3) : FVec Ideal S384x64 .f32) (ix2 k e) = (W2 k e : EReal))
  (hb2 : ∀ e, (m ((c : Thread nD τ).loc main_arg4) : FVec Ideal S64 .f32) (ix1 e) = (B2 e : EReal))
include hx hw1 hb1 hw2 hb2

omit hx hw1 hw2 hb2 in
/-- The first bias' row holds the bias. -/
theorem aB1_real (k : Fin 384) : aB1 m c (ix2 0 k) = (B1 k : EReal) := by
  rw [← hb1]
  pointwise [aB1]

omit hx hw1 hb1 hw2 in
/-- The second bias' column holds the bias. -/
theorem aB2_real (e : Fin 64) : aB2 m c (ix2 e 0) = (B2 e : EReal) := by
  rw [← hb2]
  pointwise [aB2]

omit hx hw1 hb1 hw2 hb2 in
/-- The weights' result is the weights' array on its side. -/
theorem outW_at (t : Fin 32768) (k : Fin 2) :
    outW m c (ix2 t k) = wtsAll (aX m c) (aW1 m c) (aB1 m c) (aW2 m c) (aB2 m c) (ix2 k t) := by
  pointwise [outW]

omit hx hw1 hb1 hw2 hb2 in
/-- The experts' result is the experts' array on its side. -/
theorem outI_at (t : Fin 32768) (k : Fin 2) :
    outI m c (ix2 t k) = idxAll (F := Ideal) (aX m c) (aW1 m c) (aB1 m c) (aW2 m c) (aB2 m c) (ix2 k t) := by
  pointwise [outI]

omit hx hw1 hb1 hw2 hb2 in
/-- The loss' result is the loss' one place. -/
theorem outA_at (j : S_.Idx) :
    outA m c j = auxAll (aX m c) (aW1 m c) (aB1 m c) (aW2 m c) (aB2 m c) (ix2 0 0) := by
  unfold outA shapeCast
  refine congrArg _ (funext fun a => ?_)
  fin_cases a
  · exact Subsingleton.elim (α := Fin 1) _ _
  · exact Subsingleton.elim (α := Fin 1) _ _

/-- The weights of a token. -/
theorem outW_real (t : Fin 32768) (k : Fin 2) :
    outW m c (ix2 t k)
      = (![weight1 (logit (X t) W1 B1 W2 B2), weight2 (logit (X t) W1 B1 W2 B2)] k : EReal) := by
  rw [outW_at]
  fin_cases k
  · exact wtsAll_real0 hx hw1 (aB1_real hb1) hw2 (aB2_real hb2) t
  · exact wtsAll_real1 hx hw1 (aB1_real hb1) hw2 (aB2_real hb2) t

/-- The experts of a token. -/
theorem outI_real (t : Fin 32768) (k : Fin 2) :
    outI m c (ix2 t k)
      = BitVec.ofNat 32 (![top1 (logit (X t) W1 B1 W2 B2), top2 (logit (X t) W1 B1 W2 B2)] k).val := by
  rw [outI_at]
  fin_cases k
  · exact idxAll_real0 hx hw1 (aB1_real hb1) hw2 (aB2_real hb2) t
  · exact idxAll_real1 hx hw1 (aB1_real hb1) hw2 (aB2_real hb2) t

/-- The loss. -/
theorem outA_real (j : S_.Idx) : outA m c j = (lossOf fun t => logit (X t) W1 B1 W2 B2 : EReal) := by
  rw [outA_at]
  exact auxAll_real hx hw1 (aB1_real hb1) hw2 (aB2_real hb2)

end

end Cert.Router

end
-- ==== Proof.TopTwo.lean ====
/-
  The two greatest of a row by a stable descending sort: its first two places are the first and the second expert.
-/
module

public import proofs.«01_k».proof.Proof.Fold
public import Idealize.ShloMosaic.Lib.SortPrefix

@[expose] public section

noncomputable section

namespace Cert.Router

open Idealize.ShloMosaic

/-- The sort's relation: the place with the greater value comes first. -/
def greater (f : Fin 64 → EReal) (k k' : Fin 64) : Bool := decide (f k' < f k)

/-- The same, equal values in the order of their places. -/
def greaterThenPlace (f : Fin 64 → EReal) (k k' : Fin 64) : Bool :=
  decide (f k' < f k) || (decide (f k = f k') && decide (k < k'))

/-- On places in increasing order the two relations sort alike: the sort is stable. -/
theorem stableSort_places (f : Fin 64 → EReal) (l : List (Fin 64)) (hl : l.Pairwise (· < ·)) :
    stableSort (greater f) l = stableSort (greaterThenPlace f) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hab : ¬ b < a := not_lt.mpr (hl.1 b hb').le
    simp [greater, greaterThenPlace, hab]

/-- Relations that sort the positions alike take the same position to every place. -/
theorem sortedFrom_eq_of_positions {n : ℕ} (R B : Fin n → Fin n → Bool)
    (h : sortPositions n R = sortPositions n B) : sortedFrom R = sortedFrom B :=
  funext fun k => List.get_of_eq h (k.cast (length_sortPositions n R).symm)

/-- So the sort takes its places from the same positions. -/
theorem sortedFrom_places (f : Fin 64 → EReal) : sortedFrom (greater f) = sortedFrom (greaterThenPlace f) :=
  sortedFrom_eq_of_positions _ _ (stableSort_places f _ (List.pairwise_lt_finRange 64))

/-- The refined relation is a strict total order of the places. -/
theorem greaterThenPlace_total (f : Fin 64 → EReal) : StrictTotalBefore (greaterThenPlace f) :=
  StrictTotalBefore.of_key_then_position (fun a b : EReal => decide (b < a)) f (by simp)
    (fun a b c hab hbc => by
      simp only [decide_eq_true_eq] at *
      exact hbc.trans hab)
    (fun a b => by
      simp only [decide_eq_true_eq]
      rcases lt_trichotomy a b with h | h | h
      · exact Or.inr (Or.inr h)
      · exact Or.inr (Or.inl h)
      · exact Or.inl h)

/-- The sort's first two places, of a row of reals. -/
theorem sorted_two (l : Fin 64 → ℝ) (i : Fin 2) :
    sortedFrom (greater (ext l)) (i.castLE (by decide)) = ![top1 l, top2 l] i := by
  rw [sortedFrom_places]
  have hne := top2_ne l
  refine (greaterThenPlace_total (ext l)).sortedFrom_eq_of_prefix (by decide) ![top1 l, top2 l] ?_ ?_ ?_ i
  · intro a b hab
    fin_cases a <;> fin_cases b <;> simp_all
  · intro a b hab
    have : a = 0 ∧ b = 1 := ⟨Fin.ext (by have := Fin.lt_def.mp hab; show a.val = 0; omega),
      Fin.ext (by have := Fin.lt_def.mp hab; show b.val = 1; omega)⟩
    obtain ⟨rfl, rfl⟩ := this
    show greaterThenPlace (ext l) (top2 l) (top1 l) = false
    have h1 : ¬ ext l (top1 l) < ext l (top2 l) := not_lt.mpr (EReal.coe_le_coe_iff.mpr (le_top1 l (top2 l)))
    have h2 : ext l (top2 l) = ext l (top1 l) → ¬ top2 l < top1 l := fun e hlt =>
      absurd (lt_top1 l _ hlt) (by rw [EReal.coe_eq_coe_iff.mp e]; exact lt_irrefl _)
    simp only [greaterThenPlace, Bool.or_eq_false_iff, decide_eq_false_iff_not, Bool.and_eq_false_iff]
    refine ⟨h1, ?_⟩
    by_cases e : ext l (top2 l) = ext l (top1 l)
    · exact Or.inr (h2 e)
    · exact Or.inl e
  · intro a p hp
    have p1 : p ≠ top1 l := fun e => hp 0 e.symm
    have p2 : p ≠ top2 l := fun e => hp 1 e.symm
    simp only [greaterThenPlace, Bool.or_eq_false_iff, decide_eq_false_iff_not, Bool.and_eq_false_iff]
    fin_cases a
    · show ¬ ext l (top1 l) < ext l p ∧ (¬ ext l p = ext l (top1 l) ∨ ¬ p < top1 l)
      refine ⟨not_lt.mpr (EReal.coe_le_coe_iff.mpr (le_top1 l p)), ?_⟩
      by_cases hlt : p < top1 l
      · exact Or.inl (fun e => absurd (lt_top1 l p hlt) (by rw [EReal.coe_eq_coe_iff.mp e]; exact lt_irrefl _))
      · exact Or.inr hlt
    · show ¬ ext l (top2 l) < ext l p ∧ (¬ ext l p = ext l (top2 l) ∨ ¬ p < top2 l)
      refine ⟨not_lt.mpr (EReal.coe_le_coe_iff.mpr (le_top2 l p p1)), ?_⟩
      by_cases hlt : p < top2 l
      · exact Or.inl (fun e => absurd (lt_top2 l p p1 hlt) (by rw [EReal.coe_eq_coe_iff.mp e]; exact lt_irrefl _))
      · exact Or.inr hlt

end Cert.Router

end
-- ==== Proof.RefRun.lean ====
/- The reference program as one line of host operations, and what its run leaves in the three results.

   The two functions the program calls (the arg-max over the experts and the one-hot row) stand in the line at
   the place of their calls.  The values are named step by step, so that each later file reads one step. -/
module

public import proofs.«01_k».proof.Proof.Gen.ReferenceIdeal
public import Idealize.ShloMosaic.Lib.StableHlo.Run

@[expose] public section

noncomputable section

namespace Cert.Router.Ref

open Cert.ReferenceIdeal Cert.ReferenceIdeal.Gen Idealize.ShloMosaic Idealize.ShloMosaic.TcCoe Idealize.SL.Sem
open Idealize.ShloMosaic.StableHlo

variable {F : FTy → Type} [FloatOps F]

/-! ### The values, step by step -/

/-- The first layer's values before the activation: `x · W1 + b1`. -/
def pre (x : FVec F S32768x768 .f32) (w1 : FVec F S768x384 .f32) (b1 : FVec F S384 .f32) : FVec F S32768x384 .f32 :=
  addf (Host.dotGeneral dot_S32768x768_S768x384_S32768x384_1_0_0_1_n_n none x w1)
    (broadcastInDim S32768x384 ![0, 1] bcast_S1x384_S32768x384_0_1
      (broadcastInDim S1x384 ![1] bcast_S384_S1x384_1 b1))

/-- The activation `h * (1 / (1 + exp (-h)))`. -/
def act (h : FVec F S32768x384 .f32) : FVec F S32768x384 .f32 :=
  mulf h (Host.divf (broadcastInDim S32768x384 ![] bcast_S_S32768x384 (constant S_ .f32 0x3F800000#32))
    (addf (broadcastInDim S32768x384 ![] bcast_S_S32768x384 (constant S_ .f32 0x3F800000#32))
      (Host.exp (Host.negf h))))

/-- The logits: the second layer on the activated values. -/
def logits (x : FVec F S32768x768 .f32) (w1 : FVec F S768x384 .f32) (b1 : FVec F S384 .f32)
    (w2 : FVec F S384x64 .f32) (b2 : FVec F S64 .f32) : FVec F S32768x64 .f32 :=
  addf (Host.dotGeneral dot_S32768x384_S384x64_S32768x64_1_0_0_1_n_n none (act (pre x w1 b1)) w2)
    (broadcastInDim S32768x64 ![0, 1] bcast_S1x64_S32768x64_0_1
      (broadcastInDim S1x64 ![1] bcast_S64_S1x64_1 b2))

/-- The two greatest logits of every token. -/
def topV (l : FVec F S32768x64 .f32) : FVec F S32768x2 .f32 :=
  (Host.topK S32768x2 1 (FloatOps.cmpfTotal .gt) l sliceFits_S32768x64_S32768x2).1

/-- Where the two greatest logits of every token stand. -/
def topI (l : FVec F S32768x64 .f32) : IVec S32768x2 32 :=
  (Host.topK S32768x2 1 (FloatOps.cmpfTotal .gt) l sliceFits_S32768x64_S32768x2).2

/-- The exponentials of a pair of values less the greater of the two. -/
def exp2 (v : FVec F S32768x2 .f32) : FVec F S32768x2 .f32 :=
  Host.exp (subf v (broadcastInDim S32768x2 ![0, 1] bcast_S32768x1_S32768x2_0_1
    (broadcastInDim S32768x1 ![0] bcast_S32768_S32768x1_0
      (maximumf (broadcastInDim S32768 ![] bcast_S_S32768 (constant S_ .f32 0xFF800000#32))
        (Host.reduce FloatOps.maximumf v (constant S_ .f32 0xFF800000#32) reducesTo_S32768x2_S32768_d1 h_S_)))))

/-- The softmax of every token's pair of values. -/
def soft2 (v : FVec F S32768x2 .f32) : FVec F S32768x2 .f32 :=
  Host.divf (exp2 v) (broadcastInDim S32768x2 ![0, 1] bcast_S32768x1_S32768x2_0_1
    (broadcastInDim S32768x1 ![0] bcast_S32768_S32768x1_0
      (Host.reduceAdd (exp2 v) (constant S_ .f32 0x00000000#32) reducesTo_S32768x2_S32768_d1 h_S_)))

/-- The exponentials of a token's 64 logits less the greatest of them. -/
def exp64 (l : FVec F S32768x64 .f32) : FVec F S32768x64 .f32 :=
  Host.exp (subf l (broadcastInDim S32768x64 ![0, 1] bcast_S32768x1_S32768x64_0_1
    (broadcastInDim S32768x1 ![0] bcast_S32768_S32768x1_0
      (maximumf (broadcastInDim S32768 ![] bcast_S_S32768 (constant S_ .f32 0xFF800000#32))
        (Host.reduce FloatOps.maximumf l (constant S_ .f32 0xFF800000#32) reducesTo_S32768x64_S32768_d1 h_S_)))))

/-- The softmax of every token's 64 logits. -/
def soft64 (l : FVec F S32768x64 .f32) : FVec F S32768x64 .f32 :=
  Host.divf (exp64 l) (broadcastInDim S32768x64 ![0, 1] bcast_S32768x1_S32768x64_0_1
    (broadcastInDim S32768x1 ![0] bcast_S32768_S32768x1_0
      (Host.reduceAdd (exp64 l) (constant S_ .f32 0x00000000#32) reducesTo_S32768x64_S32768_d1 h_S_)))

/-- The expert every token likes best. -/
def best (l : FVec F S32768x64 .f32) : IVec S32768 32 :=
  fun j => (Host.argReduce reducer_argmax_f32_i32 l (iotaInDim S32768x64 32 1) (constant S_ .f32 0xFF800000#32)
    (constantI S_ 32 0#32) reducesTo_S32768x64_S32768_d1 h_S_ j).2

/-- The one-hot rows of the tokens' best experts. -/
def hot (b : IVec S32768 32) : FVec F S32768x64 .f32 :=
  uitofp .f32 (cmpi .eq
    (broadcastInDim S32768x64 ![0, 1] bcast_S32768x1_S32768x64_0_1
      (broadcastInDim S32768x1 ![0] bcast_S32768_S32768x1_0 b))
    (broadcastInDim S32768x64 ![0, 1] bcast_S1x64_S32768x64_0_1 (iotaInDim S1x64 32 1)))

/-- The mean of every expert's column over the 32768 tokens. -/
def meanCol (p : FVec F S32768x64 .f32) : FVec F S64 .f32 :=
  Host.divf (Host.reduceAdd p (constant S_ .f32 0x00000000#32) reducesTo_S32768x64_S64_d0 h_S_)
    (broadcastInDim S64 ![] bcast_S_S64 (constant S_ .f32 0x47000000#32))

/-- The balancing loss of the logits. -/
def loss (l : FVec F S32768x64 .f32) : FVec F S_ .f32 :=
  mulf (constant S_ .f32 0x42800000#32)
    (Host.reduceAdd (mulf (meanCol (hot (best l))) (meanCol (soft64 l))) (constant S_ .f32 0x00000000#32)
      reducesTo_S64_S_d0 h_S_)

/-! ### The run -/

/-- The program's operations in order. -/
abbrev ops : List (HloOp τ sig (Elt F)) :=
  [ binary main_arg0 main_arg1 main_v0 ((fun l r => Host.dotGeneral dot_S32768x768_S768x384_S32768x384_1_0_0_1_n_n none l r) : (⟨S32768x768, .f32⟩ : BufTy).Contents (Elt F) → (⟨S768x384, .f32⟩ : BufTy).Contents (Elt F) → (⟨S32768x384, .f32⟩ : BufTy).Contents (Elt F)),
    unary main_arg2 main_v1 (broadcastInDim S1x384 ![1] bcast_S384_S1x384_1 : (⟨S384, .f32⟩ : BufTy).Contents (Elt F) → (⟨S1x384, .f32⟩ : BufTy).Contents (Elt F)),
    unary main_v1 main_v2 (broadcastInDim S32768x384 ![0, 1] bcast_S1x384_S32768x384_0_1 : (⟨S1x384, .f32⟩ : BufTy).Contents (Elt F) → (⟨S32768x384, .f32⟩ : BufTy).Contents (Elt F)),
    binary main_v0 main_v2 main_v3 (addf : (⟨S32768x384, .f32⟩ : BufTy).Contents (Elt F) → (⟨S32768x384, .f32⟩ : BufTy).Contents (Elt F) → (⟨S32768x384, .f32⟩ : BufTy).Contents (Elt F)),
    unary main_v3 main_v4 (Host.negf : (⟨S32768x384, .f32⟩ : BufTy).Contents (Elt F) → (⟨S32768x384, .f32⟩ : BufTy).Contents (Elt F)),
    unary main_v4 main_v5 (Host.exp : (⟨S32768x384, .f32⟩ : BufTy).Contents (Elt F) → (⟨S32768x384, .f32⟩ : BufTy).Contents (Elt F)),
    nullary main_cst (constant S_ .f32 0x3F800000#32),
    unary main_cst main_v6 (broadcastInDim S32768x384 ![] bcast_S_S32768x384 : (⟨S_, .f32⟩ : BufTy).Contents (Elt F) → (⟨S32768x384, .f32⟩ : BufTy).Contents (Elt F)),
    binary main_v6 main_v5 main_v7 (addf : (⟨S32768x384, .f32⟩ : BufTy).Contents (Elt F) → (⟨S32768x384, .f32⟩ : BufTy).Contents (Elt F) → (⟨S32768x384, .f32⟩ : BufTy).Contents (Elt F)),
    nullary main_cst_0 (constant S_ .f32 0x3F800000#32),
    unary main_cst_0 main_v8 (broadcastInDim S32768x384 ![] bcast_S_S32768x384 : (⟨S_, .f32⟩ : BufTy).Contents (Elt F) → (⟨S32768x384, .f32⟩ : BufTy).Contents (Elt F)),
    binary main_v8 main_v7 main_v9 (Host.divf : (⟨S32768x384, .f32⟩ : BufTy).Contents (Elt F) → (⟨S32768x384, .f32⟩ : BufTy).Contents (Elt F) → (⟨S32768x384, .f32⟩ : BufTy).Contents (Elt F)),
    binary main_v3 main_v9 main_v10 (mulf : (⟨S32768x384, .f32⟩ : BufTy).Contents (Elt F) → (⟨S32768x384, .f32⟩ : BufTy).Contents (Elt F) → (⟨S32768x384, .f32⟩ : BufTy).Contents (Elt F)),
    binary main_v10 main_arg3 main_v11 ((fun l r => Host.dotGeneral dot_S32768x384_S384x64_S32768x64_1_0_0_1_n_n none l r) : (⟨S32768x384, .f32⟩ : BufTy).Contents (Elt F) → (⟨S384x64, .f32⟩ : BufTy).Contents (Elt F) → (⟨S32768x64, .f32⟩ : BufTy).Contents (Elt F)),
    unary main_arg4 main_v12 (broadcastInDim S1x64 ![1] bcast_S64_S1x64_1 : (⟨S64, .f32⟩ : BufTy).Contents (Elt F) → (⟨S1x64, .f32⟩ : BufTy).Contents (Elt F)),
    unary main_v12 main_v13 (broadcastInDim S32768x64 ![0, 1] bcast_S1x64_S32768x64_0_1 : (⟨S1x64, .f32⟩ : BufTy).Contents (Elt F) → (⟨S32768x64, .f32⟩ : BufTy).Contents (Elt F)),
    binary main_v11 main_v13 main_v14 (addf : (⟨S32768x64, .f32⟩ : BufTy).Contents (Elt F) → (⟨S32768x64, .f32⟩ : BufTy).Contents (Elt F) → (⟨S32768x64, .f32⟩ : BufTy).Contents (Elt F)),
    unary main_v14 main_values ((fun x => (Host.topK S32768x2 1 (FloatOps.cmpfTotal .gt) x sliceFits_S32768x64_S32768x2).1) : (⟨S32768x64, .f32⟩ : BufTy).Contents (Elt F) → (⟨S32768x2, .f32⟩ : BufTy).Contents (Elt F)),
    unary main_v14 main_indices ((fun x => (Host.topK S32768x2 1 (FloatOps.cmpfTotal .gt) x sliceFits_S32768x64_S32768x2).2) : (⟨S32768x64, .f32⟩ : BufTy).Contents (Elt F) → (⟨S32768x2, .i32⟩ : BufTy).Contents (Elt F)),
    nullary main_cst_1 (constant S_ .f32 0xFF800000#32),
    binary main_values main_cst_1 main_v15 ((fun x v => Host.reduce FloatOps.maximumf x v reducesTo_S32768x2_S32768_d1 h_S_) : (⟨S32768x2, .f32⟩ : BufTy).Contents (Elt F) → (⟨S_, .f32⟩ : BufTy).Contents (Elt F) → (⟨S32768, .f32⟩ : BufTy).Contents (Elt F)),
    nullary main_cst_2 (constant S_ .f32 0xFF800000#32),
    unary main_cst_2 main_v16 (broadcastInDim S32768 ![] bcast_S_S32768 : (⟨S_, .f32⟩ : BufTy).Contents (Elt F) → (⟨S32768, .f32⟩ : BufTy).Contents (Elt F)),
    binary main_v16 main_v15 main_v17 (maximumf : (⟨S32768, .f32⟩ : BufTy).Contents (Elt F) → (⟨S32768, .f32⟩ : BufTy).Contents (Elt F) → (⟨S32768, .f32⟩ : BufTy).Contents (Elt F)),
    unary main_v17 main_v18 (broadcastInDim S32768x1 ![0] bcast_S32768_S32768x1_0 : (⟨S32768, .f32⟩ : BufTy).Contents (Elt F) → (⟨S32768x1, .f32⟩ : BufTy).Contents (Elt F)),
    unary main_v18 main_v19 (broadcastInDim S32768x2 ![0, 1] bcast_S32768x1_S32768x2_0_1 : (⟨S32768x1, .f32⟩ : BufTy).Contents (Elt F) → (⟨S32768x2, .f32⟩ : BufTy).Contents (Elt F)),
    binary main_values main_v19 main_v20 (subf : (⟨S32768x2, .f32⟩ : BufTy).Contents (Elt F) → (⟨S32768x2, .f32⟩ : BufTy).Contents (Elt F) → (⟨S32768x2, .f32⟩ : BufTy).Contents (Elt F)),
    unary main_v20 main_v21 (Host.exp : (⟨S32768x2, .f32⟩ : BufTy).Contents (Elt F) → (⟨S32768x2, .f32⟩ : BufTy).Contents (Elt F)),
    nullary main_cst_3 (constant S_ .f32 0x00000000#32),
    binary main_v21 main_cst_3 main_v22 ((fun x v => Host.reduceAdd x v reducesTo_S32768x2_S32768_d1 h_S_) : (⟨S32768x2, .f32⟩ : BufTy).Contents (Elt F) → (⟨S_, .f32⟩ : BufTy).Contents (Elt F) → (⟨S32768, .f32⟩ : BufTy).Contents (Elt F)),
    unary main_v22 main_v23 (broadcastInDim S32768x1 ![0] bcast_S32768_S32768x1_0 : (⟨S32768, .f32⟩ : BufTy).Contents (Elt F) → (⟨S32768x1, .f32⟩ : BufTy).Contents (Elt F)),
    unary main_v23 main_v24 (broadcastInDim S32768x2 ![0, 1] bcast_S32768x1_S32768x2_0_1 : (⟨S32768x1, .f32⟩ : BufTy).Contents (Elt F) → (⟨S32768x2, .f32⟩ : BufTy).Contents (Elt F)),
    binary main_v21 main_v24 main_v25 (Host.divf : (⟨S32768x2, .f32⟩ : BufTy).Contents (Elt F) → (⟨S32768x2, .f32⟩ : BufTy).Contents (Elt F) → (⟨S32768x2, .f32⟩ : BufTy).Contents (Elt F)),
    nullary main_cst_4 (constant S_ .f32 0xFF800000#32),
    binary main_v14 main_cst_4 main_v26 ((fun x v => Host.reduce FloatOps.maximumf x v reducesTo_S32768x64_S32768_d1 h_S_) : (⟨S32768x64, .f32⟩ : BufTy).Contents (Elt F) → (⟨S_, .f32⟩ : BufTy).Contents (Elt F) → (⟨S32768, .f32⟩ : BufTy).Contents (Elt F)),
    nullary main_cst_5 (constant S_ .f32 0xFF800000#32),
    unary main_cst_5 main_v27 (broadcastInDim S32768 ![] bcast_S_S32768 : (⟨S_, .f32⟩ : BufTy).Contents (Elt F) → (⟨S32768, .f32⟩ : BufTy).Contents (Elt F)),
    binary main_v27 main_v26 main_v28 (maximumf : (⟨S32768, .f32⟩ : BufTy).Contents (Elt F) → (⟨S32768, .f32⟩ : BufTy).Contents (Elt F) → (⟨S32768, .f32⟩ : BufTy).Contents (Elt F)),
    unary main_v28 main_v29 (broadcastInDim S32768x1 ![0] bcast_S32768_S32768x1_0 : (⟨S32768, .f32⟩ : BufTy).Contents (Elt F) → (⟨S32768x1, .f32⟩ : BufTy).Contents (Elt F)),
    unary main_v29 main_v30 (broadcastInDim S32768x64 ![0, 1] bcast_S32768x1_S32768x64_0_1 : (⟨S32768x1, .f32⟩ : BufTy).Contents (Elt F) → (⟨S32768x64, .f32⟩ : BufTy).Contents (Elt F)),
    binary main_v14 main_v30 main_v31 (subf : (⟨S32768x64, .f32⟩ : BufTy).Contents (Elt F) → (⟨S32768x64, .f32⟩ : BufTy).Contents (Elt F) → (⟨S32768x64, .f32⟩ : BufTy).Contents (Elt F)),
    unary main_v31 main_v32 (Host.exp : (⟨S32768x64, .f32⟩ : BufTy).Contents (Elt F) → (⟨S32768x64, .f32⟩ : BufTy).Contents (Elt F)),
    nullary main_cst_6 (constant S_ .f32 0x00000000#32),
    binary main_v32 main_cst_6 main_v33 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v33 main_v34 (broadcastInDim S32768x1 ![0] bcast_S32768_S32768x1_0 : (⟨S32768, .f32⟩ : BufTy).Contents (Elt F) → (⟨S32768x1, .f32⟩ : BufTy).Contents (Elt F)),
    unary main_v34 main_v35 (broadcastInDim S32768x64 ![0, 1] bcast_S32768x1_S32768x64_0_1 : (⟨S32768x1, .f32⟩ : BufTy).Contents (Elt F) → (⟨S32768x64, .f32⟩ : BufTy).Contents (Elt F)),
    binary main_v32 main_v35 main_v36 (Host.divf : (⟨S32768x64, .f32⟩ : BufTy).Contents (Elt F) → (⟨S32768x64, .f32⟩ : BufTy).Contents (Elt F) → (⟨S32768x64, .f32⟩ : BufTy).Contents (Elt F)),
    TRef.nullary (TRef.of (T := ⟨S32768x64, .i32⟩) main_call0_v0) (iotaInDim S32768x64 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S32768x64, .f32⟩) main_v14) (TRef.of (T := ⟨S32768x64, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmax_f32_i32 x y u v reducesTo_S32768x64_S32768_d1 h_S_ j).1),
    TRef.quaternary (TRef.of (T := ⟨S32768x64, .f32⟩) main_v14) (TRef.of (T := ⟨S32768x64, .i32⟩) main_call0_v0) (TRef.of (T := ⟨S_, .f32⟩) main_call0_cst) (TRef.of (T := ⟨S_, .i32⟩) main_call0_c) (TRef.of (T := ⟨S32768, .i32⟩) main_v37) (fun x y u v j => (Host.argReduce reducer_argmax_f32_i32 x y u v reducesTo_S32768x64_S32768_d1 h_S_ j).2),
    TRef.unary (TRef.of (T := ⟨S32768, .i32⟩) main_v37) (TRef.of (T := ⟨S32768x1, .i32⟩) main_call1_v0) (broadcastInDim S32768x1 ![0] bcast_S32768_S32768x1_0),
    TRef.nullary (TRef.of (T := ⟨S1x64, .i32⟩) main_call1_v1) (iotaInDim S1x64 32 1),
    TRef.unary (TRef.of (T := ⟨S32768x1, .i32⟩) main_call1_v0) (TRef.of (T := ⟨S32768x64, .i32⟩) main_call1_v2) (broadcastInDim S32768x64 ![0, 1] bcast_S32768x1_S32768x64_0_1),
    TRef.unary (TRef.of (T := ⟨S1x64, .i32⟩) main_call1_v1) (TRef.of (T := ⟨S32768x64, .i32⟩) main_call1_v3) (broadcastInDim S32768x64 ![0, 1] bcast_S1x64_S32768x64_0_1),
    TRef.binary (TRef.of (T := ⟨S32768x64, .i32⟩) main_call1_v2) (TRef.of (T := ⟨S32768x64, .i32⟩) main_call1_v3) (TRef.of (T := ⟨S32768x64, .i1⟩) main_call1_v4) (cmpi .eq),
    TRef.unary (TRef.of (T := ⟨S32768x64, .i1⟩) main_call1_v4) (TRef.of (T := ⟨S32768x64, .f32⟩) main_v38) (uitofp .f32),
    nullary main_cst_7 (constant S_ .f32 0x00000000#32),
    binary main_v38 main_cst_7 main_v39 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    nullary main_cst_8 (constant S_ .f32 0x47000000#32),
    unary main_cst_8 main_v40 (broadcastInDim S64 ![] bcast_S_S64 : (⟨S_, .f32⟩ : BufTy).Contents (Elt F) → (⟨S64, .f32⟩ : BufTy).Contents (Elt F)),
    binary main_v39 main_v40 main_v41 (Host.divf : (⟨S64, .f32⟩ : BufTy).Contents (Elt F) → (⟨S64, .f32⟩ : BufTy).Contents (Elt F) → (⟨S64, .f32⟩ : BufTy).Contents (Elt F)),
    nullary main_cst_9 (constant S_ .f32 0x00000000#32),
    binary main_v36 main_cst_9 main_v42 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    nullary main_cst_10 (constant S_ .f32 0x47000000#32),
    unary main_cst_10 main_v43 (broadcastInDim S64 ![] bcast_S_S64 : (⟨S_, .f32⟩ : BufTy).Contents (Elt F) → (⟨S64, .f32⟩ : BufTy).Contents (Elt F)),
    binary main_v42 main_v43 main_v44 (Host.divf : (⟨S64, .f32⟩ : BufTy).Contents (Elt F) → (⟨S64, .f32⟩ : BufTy).Contents (Elt F) → (⟨S64, .f32⟩ : BufTy).Contents (Elt F)),
    binary main_v41 main_v44 main_v45 (mulf : (⟨S64, .f32⟩ : BufTy).Contents (Elt F) → (⟨S64, .f32⟩ : BufTy).Contents (Elt F) → (⟨S64, .f32⟩ : BufTy).Contents (Elt F)),
    nullary main_cst_11 (constant S_ .f32 0x00000000#32),
    binary main_v45 main_cst_11 main_v46 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_12 (constant S_ .f32 0x42800000#32),
    binary main_cst_12 main_v46 main_v47 (mulf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The program is this line of operations. -/
theorem main_eq (c : Dev nD) : main (F := F) c = seq ops := rfl

/-- The program's kernel-free signature holds no scoped reference. -/
theorem scopedRefs_eq : (Finset.univ.filter fun b : Ref sig .tc => b.isScoped) = ∅ := by decide

/-- Nor a scoped semaphore. -/
theorem scopedSems_eq : (Finset.univ.filter fun sm : SemLoc sig => sm.isScoped .tc) = ∅ := by decide

set_option maxRecDepth 8192 in
/-- Every operation of the line touches the host's buffers only. -/
theorem ops_sub : (ops : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub ..⟩

/-- The logits of a memory's arguments. -/
def lg (m : (ℓ : Loc nD τ sig) → Buf (Elt F) ℓ) (c : Dev nD) : FVec F S32768x64 .f32 :=
  logits (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))

set_option maxRecDepth 8192 in
set_option maxHeartbeats 20000000 in
/-- The run: from any memory with zero counters the program ends with the three results at the named values of the
    arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = soft2 (topV (lg m c))
      ∧ r.2.mem ((c.tc : Thread nD τ).loc main_indices) = topI (lg m c)
      ∧ r.2.mem ((c.tc : Thread nD τ).loc main_v47) = loss (lg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_)
    (run_seq scopedRefs_eq scopedSems_eq defs main (fun _ => ops) main_eq (fun _ => ops_sub) m ρ)
  refine ⟨(h c main_v25).trans ?_, (h c main_indices).trans ?_, (h c main_v47).trans ?_, (h c main_arg0).trans ?_,
    (h c main_arg1).trans ?_, (h c main_arg2).trans ?_, (h c main_arg3).trans ?_, (h c main_arg4).trans ?_⟩ <;>
  simp only [ops, TRef.quaternary, TRef.binary, TRef.nullary, TRef.unary, TRef.toBuf, TRef.ofBuf, cast_eq] <;>
  after_results_simp <;> rfl

end Cert.Router.Ref

end
-- ==== Proof.RefRead.lean ====
/-
  The reference's steps read at one place, over the extended reals: each array operation as arithmetic on the entries.
-/
module

public import proofs.«01_k».proof.Proof.RefRun
public import Idealize.ShloMosaic.Lib.Pointwise

@[expose] public section

noncomputable section

namespace Cert.Router.Ref

open Cert.ReferenceIdeal Cert.ReferenceIdeal.Gen Idealize.ShloMosaic

/-- The pattern of minus infinity. -/
theorem bits_bot : Ideal.ofBits .f32 0xFF800000#32 = ⊥ := by simp [Ideal.ofBits, Ideal.ieee]

/-- The first layer at a token and a hidden unit. -/
theorem pre_at (x : FVec Ideal S32768x768 .f32) (w1 : FVec Ideal S768x384 .f32) (b1 : FVec Ideal S384 .f32)
    (t : Fin 32768) (k : Fin 384) :
    pre x w1 b1 (ix2 t k) = ∑ d : Fin 768, x (ix2 t d) * w1 (ix2 d k) + b1 (ix1 k) := by
  pointwise [pre]

/-- The activation at a place. -/
theorem act_at (h : FVec Ideal S32768x384 .f32) (t : Fin 32768) (k : Fin 384) :
    act h (ix2 t k) = h (ix2 t k) * Ideal.div 1 (1 + Ideal.exp (-h (ix2 t k))) := by
  pointwise [act]

/-- The logits at a token and an expert. -/
theorem logits_at (x : FVec Ideal S32768x768 .f32) (w1 : FVec Ideal S768x384 .f32) (b1 : FVec Ideal S384 .f32)
    (w2 : FVec Ideal S384x64 .f32) (b2 : FVec Ideal S64 .f32) (t : Fin 32768) (e : Fin 64) :
    logits x w1 b1 w2 b2 (ix2 t e)
      = ∑ k : Fin 384, act (pre x w1 b1) (ix2 t k) * w2 (ix2 k e) + b2 (ix1 e) := by
  pointwise [logits]

/-- The pair's exponentials at a place. -/
theorem exp2_at (v : FVec Ideal S32768x2 .f32) (t : Fin 32768) (k : Fin 2) :
    exp2 v (ix2 t k) = Ideal.exp (v (ix2 t k)
      - max ⊥ ((Finset.univ : Finset (Fin 2)).fold max ⊥ fun j => v (ix2 t j))) := by
  pointwise [exp2, bits_bot]

/-- The pair's softmax at a place. -/
theorem soft2_at (v : FVec Ideal S32768x2 .f32) (t : Fin 32768) (k : Fin 2) :
    soft2 v (ix2 t k) = Ideal.div (exp2 v (ix2 t k)) (∑ j : Fin 2, exp2 v (ix2 t j)) := by
  pointwise [soft2]

/-- The exponentials of a token's logits at a place. -/
theorem exp64_at (l : FVec Ideal S32768x64 .f32) (t : Fin 32768) (e : Fin 64) :
    exp64 l (ix2 t e) = Ideal.exp (l (ix2 t e)
      - max ⊥ ((Finset.univ : Finset (Fin 64)).fold max ⊥ fun j => l (ix2 t j))) := by
  pointwise [exp64, bits_bot]

/-- The softmax of a token's logits at a place. -/
theorem soft64_at (l : FVec Ideal S32768x64 .f32) (t : Fin 32768) (e : Fin 64) :
    soft64 l (ix2 t e) = Ideal.div (exp64 l (ix2 t e)) (∑ j : Fin 64, exp64 l (ix2 t j)) := by
  pointwise [soft64]

/-- The one-hot rows at a place. -/
theorem hot_at (b : IVec S32768 32) (t : Fin 32768) (e : Fin 64) :
    hot (F := Ideal) b (ix2 t e)
      = FloatOps.uitofp (F := Ideal) .f32 (IntOp.cmpi .eq (b (ix1 t)) (BitVec.ofNat 32 e.val)) := by
  pointwise [hot]

/-- A column's mean. -/
theorem meanCol_at (p : FVec Ideal S32768x64 .f32) (e : Fin 64) :
    meanCol p (ix1 e) = Ideal.div (∑ t : Fin 32768, p (ix2 t e)) (Ideal.ofBits .f32 0x47000000#32) := by
  pointwise [meanCol]

/-- The loss. -/
theorem loss_at (l : FVec Ideal S32768x64 .f32) (j : S_.Idx) :
    loss l j = Ideal.ofBits .f32 0x42800000#32
      * ∑ e : Fin 64, meanCol (hot (best l)) (ix1 e) * meanCol (soft64 l) (ix1 e) := by
  pointwise [loss]

end Cert.Router.Ref

end
-- ==== Proof.RefTop.lean ====
/-
  The reference's top two of a row: their values and their experts.
-/
module

public import proofs.«01_k».proof.Proof.TopTwo
public import proofs.«01_k».proof.Proof.RefRead

@[expose] public section

noncomputable section

namespace Cert.Router.Ref

open Idealize.ShloMosaic
open Cert.ReferenceIdeal
open Cert.ReferenceIdeal.Facts₀
open Cert.ReferenceIdeal.Facts
open Cert.Router

variable [Facts]

/-- Moving along a row of the logits changes the column alone. -/
theorem along_row (t : Fin 32768) (e e' : Fin 64) :
    Shape.Idx.along (s := S32768x64) (ix2 t e) (1 : Fin 2) e' = ix2 t e' := by
  funext a
  fin_cases a
  · exact Function.update_of_ne (by decide) _ _
  · exact Function.update_self _ _ _

/-- The sort's relation on a row is the comparison of the row's values. -/
theorem relation_row (l : FVec Ideal S32768x64 .f32) (t : Fin 32768) (f : Fin 64 → EReal)
    (hf : ∀ e, l (ix2 t e) = f e) (e : Fin 64) :
    (fun k k' : Fin 64 => (FloatOps.cmpfTotal .gt (l (Shape.Idx.along (s := S32768x64) (ix2 t e) (1 : Fin 2) k))
      (l (Shape.Idx.along (s := S32768x64) (ix2 t e) (1 : Fin 2) k')) == 1#1)) = greater f := by
  funext k k'
  rw [along_row, along_row, hf, hf]
  show (BitVec.ofBool (decide (f k' < f k)) == 1#1) = decide (f k' < f k)
  cases decide (f k' < f k) <;> rfl

/-- The sort of the rows, at a place: the values and the experts both come from the sort's position. -/
theorem sort_row (l : FVec Ideal S32768x64 .f32) (y : IVec S32768x64 32) (t : Fin 32768) (f : Fin 64 → EReal)
    (hf : ∀ e, l (ix2 t e) = f e) (e : Fin 64) (p : S32768x64.Idx) (hp : p = ix2 t e) :
    (Host.sort2 S32768x64 1 (fun a b => FloatOps.cmpfTotal (F := Ideal) .gt a.1 b.1) l y).1 p
        = f (sortedFrom (greater f) e)
      ∧ (Host.sort2 S32768x64 1 (fun a b => FloatOps.cmpfTotal (F := Ideal) .gt a.1 b.1) l y).2 p
        = y (ix2 t (sortedFrom (greater f) e)) := by
  subst hp
  unfold Host.sort2
  rw [dif_pos (by decide : 1 < S32768x64.rank)]
  have h := relation_row l t f hf e
  constructor
  · show l (Shape.Idx.along (s := S32768x64) (ix2 t e) (1 : Fin 2) (sortedFrom (fun k k' : Fin 64 =>
      (FloatOps.cmpfTotal .gt (l (Shape.Idx.along (s := S32768x64) (ix2 t e) (1 : Fin 2) k))
      (l (Shape.Idx.along (s := S32768x64) (ix2 t e) (1 : Fin 2) k')) == 1#1)) e)) = _
    rw [h]
    exact (congrArg l (along_row t e _)).trans (hf _)
  · show y (Shape.Idx.along (s := S32768x64) (ix2 t e) (1 : Fin 2) (sortedFrom (fun k k' : Fin 64 =>
      (FloatOps.cmpfTotal .gt (l (Shape.Idx.along (s := S32768x64) (ix2 t e) (1 : Fin 2) k))
      (l (Shape.Idx.along (s := S32768x64) (ix2 t e) (1 : Fin 2) k')) == 1#1)) e)) = _
    rw [h]
    exact congrArg y (along_row t e _)

/-- The place of the logits that a place of the top two is cut from. -/
theorem slice_place (t : Fin 32768) (k : Fin 2) :
    (fun a : Fin S32768x64.rank => (⟨0 + ((ix2 t k : S32768x2.Idx) (a.cast sliceFits_S32768x64_S32768x2.1.symm)).val,
      Nat.lt_of_lt_of_le (Nat.add_lt_add_left (Fin.isLt _) _) (sliceFits_S32768x64_S32768x2.2 a)⟩ : Fin (S32768x64.size a)))
      = ix2 t (k.castLE (by decide)) := by
  funext a
  fin_cases a
  · exact Fin.ext (Nat.zero_add _)
  · exact Fin.ext (Nat.zero_add _)

/-- The top two of a row of reals: the values of the first and the second expert. -/
theorem topV_real (l : FVec Ideal S32768x64 .f32) (t : Fin 32768) (f : Fin 64 → ℝ)
    (hf : ∀ e, l (ix2 t e) = ext f e) (k : Fin 2) :
    topV l (ix2 t k) = ext f (![top1 f, top2 f] k) := by
  rw [← sorted_two f k]
  exact (sort_row l (fun i => if hd : 1 < S32768x64.rank then iotaInDim S32768x64 32 ⟨1, hd⟩ i else 0#32) t (ext f) hf
    (k.castLE (by decide)) _ (slice_place t k)).1

/-- And their experts. -/
theorem topI_real (l : FVec Ideal S32768x64 .f32) (t : Fin 32768) (f : Fin 64 → ℝ)
    (hf : ∀ e, l (ix2 t e) = ext f e) (k : Fin 2) :
    topI l (ix2 t k) = BitVec.ofNat 32 (![top1 f, top2 f] k).val := by
  rw [← sorted_two f k]
  refine ((sort_row l (fun i => if hd : 1 < S32768x64.rank then iotaInDim S32768x64 32 ⟨1, hd⟩ i else 0#32) t (ext f) hf
    (k.castLE (by decide)) _ (slice_place t k)).2).trans ?_
  rw [dif_pos (by decide : 1 < S32768x64.rank)]
  rfl

end Cert.Router.Ref

end
-- ==== Proof.RefArg.lean ====
/-
  The reference's argmax of a row: the first expert of greatest value.
-/
module

public import proofs.«01_k».proof.Proof.Fold
public import proofs.«01_k».proof.Proof.RefRead

@[expose] public section

noncomputable section

namespace Cert.Router.Ref

open Idealize.ShloMosaic
open Cert.ReferenceIdeal
open Cert.ReferenceIdeal.Facts₀
open Cert.ReferenceIdeal.Facts
open Cert.Router

variable [Facts]

/-- A row's value with its expert, as the argmax folds over them. -/
def pair (f : Fin 64 → ℝ) (e : Fin 64) : Ideal .f32 × BitVec 32 := (ext f e, BitVec.ofNat 32 e.val)

/-- The better of two experts: the greater value, among equal values the lesser expert. -/
def better (f : Fin 64 → ℝ) (a b : Fin 64) : Fin 64 := if f b < f a ∨ (f a = f b ∧ a < b) then a else b

/-- Signed comparison of two experts' words is comparison of the experts. -/
theorem slt_expert (a b : Fin 64) :
    IntOp.cmpi .slt (BitVec.ofNat 32 a.val) (BitVec.ofNat 32 b.val) = BitVec.ofBool (decide (a < b)) := by
  show BitVec.ofBool ((BitVec.ofNat 32 a.val).slt (BitVec.ofNat 32 b.val)) = _
  unfold BitVec.slt
  rw [toInt_expert, toInt_expert]
  congr 1
  exact decide_eq_decide.mpr (Nat.cast_lt.trans Fin.lt_def.symm)

/-- The body of the argmax on two experts keeps the better one. -/
theorem body_pair (f : Fin 64 → ℝ) (a b : Fin 64) :
    reducer_argmax_f32_i32 (F := Ideal) (pair f a) (pair f b) = pair f (better f a b) := by
  have h1 : FloatOps.cmpf (F := Ideal) (φ := .f32) .ogt (ext f a) (ext f b) = BitVec.ofBool (decide (f b < f a)) := by
    show BitVec.ofBool (decide (ext f b < ext f a)) = _
    simp [ext, EReal.coe_lt_coe_iff]
  have h2 : FloatOps.cmpf (F := Ideal) (φ := .f32) .une (ext f a) (ext f a) = 0#1 := by
    show BitVec.ofBool (decide (ext f a ≠ ext f a)) = _
    simp
  have h3 : FloatOps.cmpf (F := Ideal) (φ := .f32) .oeq (ext f a) (ext f b) = BitVec.ofBool (decide (f a = f b)) := by
    show BitVec.ofBool (decide (ext f a = ext f b)) = _
    simp [ext, EReal.coe_eq_coe_iff]
  have h4 := slt_expert a b
  unfold reducer_argmax_f32_i32 pair better
  simp only [h1, h2, h3, h4]
  by_cases hlt : f b < f a
  · have hone : ∀ w : BitVec 1, IntOp.ori 1#1 w = 1#1 := by decide
    simp [hlt, hone, Scalar.select]
  · by_cases heq : f a = f b
    · by_cases hab : a < b
      · simp [heq, hab, IntOp.ori, IntOp.andi, Scalar.select, ext]
      · simp [heq, hab, IntOp.ori, IntOp.andi, Scalar.select, ext]
    · simp [hlt, heq, IntOp.ori, IntOp.andi, Scalar.select]

/-- From the least value the body takes whatever expert comes. -/
theorem body_init (f : Fin 64 → ℝ) (b : Fin 64) (i : BitVec 32) :
    reducer_argmax_f32_i32 (F := Ideal) ((⊥ : EReal), i) (pair f b) = pair f b := by
  have h1 : FloatOps.cmpf (F := Ideal) (φ := .f32) .ogt (⊥ : EReal) (ext f b) = 0#1 := by
    show BitVec.ofBool (decide (ext f b < ⊥)) = _
    simp
  have h2 : FloatOps.cmpf (F := Ideal) (φ := .f32) .une (⊥ : EReal) (⊥ : EReal) = 0#1 := by
    show BitVec.ofBool (decide ((⊥ : EReal) ≠ ⊥)) = _
    simp
  have h3 : FloatOps.cmpf (F := Ideal) (φ := .f32) .oeq (⊥ : EReal) (ext f b) = 0#1 := by
    show BitVec.ofBool (decide ((⊥ : EReal) = ext f b)) = _
    simp [ext]
  unfold reducer_argmax_f32_i32 pair
  simp only [h1, h2, h3]
  simp [IntOp.ori, IntOp.andi, Scalar.select]

/-- Folding the body over experts is folding `better`. -/
theorem fold_pair (f : Fin 64 → ℝ) (es : List (Fin 64)) (a : Fin 64) :
    (es.map (pair f)).foldl (reducer_argmax_f32_i32 (F := Ideal)) (pair f a) = pair f (es.foldl (better f) a) := by
  induction es generalizing a with
  | nil => rfl
  | cons b es ih => rw [List.map_cons, List.foldl_cons, body_pair, ih, List.foldl_cons]

/-- `a` is at least as good as `b`. -/
def Beats (f : Fin 64 → ℝ) (a b : Fin 64) : Prop := f b < f a ∨ (f a = f b ∧ a ≤ b)

/-- Of two experts, the better one is at least as good as both. -/
theorem better_beats (f : Fin 64 → ℝ) (a b : Fin 64) : Beats f (better f a b) a ∧ Beats f (better f a b) b := by
  unfold better
  split
  · rename_i h
    exact ⟨Or.inr ⟨rfl, le_refl _⟩, h.imp id fun h => ⟨h.1, h.2.le⟩⟩
  · rename_i h
    rw [not_or, not_lt, not_and, not_lt] at h
    refine ⟨?_, Or.inr ⟨rfl, le_refl _⟩⟩
    rcases lt_or_eq_of_le h.1 with hl | he
    · exact Or.inl hl
    · exact Or.inr ⟨he.symm, h.2 he⟩

/-- Being at least as good is transitive. -/
theorem Beats.trans {f : Fin 64 → ℝ} {a b c : Fin 64} (h : Beats f a b) (h' : Beats f b c) : Beats f a c := by
  rcases h with h | ⟨h, h2⟩ <;> rcases h' with h' | ⟨h', h2'⟩
  · exact Or.inl (h'.trans h)
  · exact Or.inl (h' ▸ h)
  · exact Or.inl (h ▸ h')
  · exact Or.inr ⟨h.trans h', h2.trans h2'⟩

/-- The fold's expert is at least as good as every one folded over. -/
theorem fold_beats (f : Fin 64 → ℝ) (es : List (Fin 64)) (a : Fin 64) :
    Beats f (es.foldl (better f) a) a ∧ ∀ b ∈ es, Beats f (es.foldl (better f) a) b := by
  induction es generalizing a with
  | nil => exact ⟨Or.inr ⟨rfl, le_refl _⟩, fun b hb => absurd hb List.not_mem_nil⟩
  | cons c es ih =>
    rw [List.foldl_cons]
    obtain ⟨h1, h2⟩ := ih (better f a c)
    obtain ⟨ha, hc⟩ := better_beats f a c
    refine ⟨h1.trans ha, fun b hb => ?_⟩
    rcases List.mem_cons.mp hb with rfl | hb
    · exact h1.trans hc
    · exact h2 b hb

/-- Folding over a list of all experts gives the first expert. -/
theorem fold_all (f : Fin 64 → ℝ) (es : List (Fin 64)) (hes : ∀ e, e ∈ es) :
    (es.map (pair f)).foldl (reducer_argmax_f32_i32 (F := Ideal)) ((⊥ : EReal), 0#32) = pair f (top1 f) := by
  match es, hes with
  | [], hes => exact absurd (hes 0) List.not_mem_nil
  | a :: es, hes =>
    rw [List.map_cons, List.foldl_cons, body_init, fold_pair]
    congr 1
    obtain ⟨h1, h2⟩ := fold_beats f es a
    set c := es.foldl (better f) a with hc
    have h : ∀ b, Beats f c b := fun b => by
      rcases List.mem_cons.mp (hes b) with rfl | hb
      · exact h1
      · exact h2 b hb
    rcases h (top1 f) with h | ⟨h, hle⟩
    · exact absurd h (not_lt.mpr (le_top1 f c))
    · rcases lt_or_eq_of_le hle with hlt | he
      · exact absurd (lt_top1 f c hlt) (by rw [h]; exact lt_irrefl _)
      · exact he

/-- Dropping the experts' axis leaves the token. -/
theorem drop_row (t : Fin 32768) (e : Fin 64) :
    reducesTo_S32768x64_S32768_d1.drop (ix2 t e : S32768x64.Idx) = ix1 t := by
  funext a
  fin_cases a
  rfl

/-- The expert of a place of the logits. -/
def col (i : S32768x64.Idx) : Fin 64 := i 1

/-- The token of a place of the logits. -/
def row (i : S32768x64.Idx) : Fin 32768 := i 0

/-- A place is its token's and its expert's. -/
theorem place_eq (i : S32768x64.Idx) : i = ix2 (row i) (col i) := by
  funext a
  fin_cases a <;> rfl

/-- Folding the body over any listing of a whole row gives the first expert. -/
theorem fold_listing (l : FVec Ideal S32768x64 .f32) (t : Fin 32768) (f : Fin 64 → ℝ)
    (hf : ∀ e, l (ix2 t e) = ext f e) {N : ℕ} (g : Fin N → S32768x64.Idx) (L : List (Fin N))
    (hL : ∀ n ∈ L, row (g n) = t) (hall : ∀ e, ∃ n ∈ L, g n = ix2 t e) :
    (L.map fun n => (l (g n), iotaInDim S32768x64 32 1 (g n))).foldl (reducer_argmax_f32_i32 (F := Ideal))
      ((⊥ : EReal), 0#32) = pair f (top1 f) := by
  have hmap : (L.map fun n => (l (g n), iotaInDim S32768x64 32 1 (g n)))
      = (L.map fun n => col (g n)).map (pair f) := by
    rw [List.map_map]
    refine List.map_congr_left fun n hn => Prod.ext ?_ rfl
    show l (g n) = ext f (col (g n))
    rw [← hf, ← hL n hn, ← place_eq]
  rw [hmap]
  refine fold_all f _ fun e => ?_
  obtain ⟨n, hn, he⟩ := hall e
  exact List.mem_map.mpr ⟨n, hn, by rw [he]; rfl⟩

/-- The argmax of a row of reals: the first expert. -/
theorem best_real (l : FVec Ideal S32768x64 .f32) (t : Fin 32768) (f : Fin 64 → ℝ)
    (hf : ∀ e, l (ix2 t e) = ext f e) : best l (ix1 t) = BitVec.ofNat 32 (top1 f).val := by
  unfold best
  rw [Ideal.argReduce_eq_reduce2, Host.reduce2_eq_foldl_fiber]
  unfold Host.argReduceFiber
  have hinit : constant (F := Ideal) S_ .f32 0xFF800000#32 (Shape.Idx.first h_S_) = (⊥ : EReal) := bits_bot
  rw [hinit]
  refine congrArg Prod.snd (fold_listing l t f hf S32768x64.rowMajor.symm _ (fun n hn => ?_) fun e => ?_)
  · have hd := (List.mem_filter.mp hn).2
    rw [decide_eq_true_eq, place_eq (S32768x64.rowMajor.symm n), drop_row] at hd
    exact congrFun hd 0
  · refine ⟨S32768x64.rowMajor (ix2 t e), List.mem_filter.mpr ⟨List.mem_finRange _, ?_⟩, Equiv.symm_apply_apply _ _⟩
    rw [decide_eq_true_eq, Equiv.symm_apply_apply]
    exact drop_row t e

end Cert.Router.Ref

end
-- ==== Proof.RefMath.lean ====
/-
  The reference over the reals: its logits, its weights, its experts and its loss are those of the specification.
-/
module

public import proofs.«01_k».proof.Proof.RefTop
public import proofs.«01_k».proof.Proof.RefArg

@[expose] public section

noncomputable section

namespace Cert.Router.Ref

open Idealize.ShloMosaic
open Cert.ReferenceIdeal
open Cert.Router

variable [Facts]

/-- The logits of real arguments. -/
theorem logits_real {x : FVec Ideal S32768x768 .f32} {w1 : FVec Ideal S768x384 .f32} {b1 : FVec Ideal S384 .f32}
    {w2 : FVec Ideal S384x64 .f32} {b2 : FVec Ideal S64 .f32} {X : Fin 32768 → Fin 768 → ℝ}
    {W1 : Fin 768 → Fin 384 → ℝ} {B1 : Fin 384 → ℝ} {W2 : Fin 384 → Fin 64 → ℝ} {B2 : Fin 64 → ℝ}
    (hx : ∀ t d, x (ix2 t d) = (X t d : EReal)) (hw1 : ∀ d k, w1 (ix2 d k) = (W1 d k : EReal))
    (hb1 : ∀ k, b1 (ix1 k) = (B1 k : EReal)) (hw2 : ∀ k e, w2 (ix2 k e) = (W2 k e : EReal))
    (hb2 : ∀ e, b2 (ix1 e) = (B2 e : EReal)) (t : Fin 32768) (e : Fin 64) :
    logits x w1 b1 w2 b2 (ix2 t e) = ext (logit (X t) W1 B1 W2 B2) e := by
  have hp : ∀ k, pre x w1 b1 (ix2 t k) = (hid (X t) W1 B1 k : EReal) := fun k => by
    rw [pre_at, hb1]
    simp only [hx, hw1, ← EReal.coe_mul, ← coe_sum, ← EReal.coe_add]
    rfl
  have ha : ∀ k, act (pre x w1 b1) (ix2 t k) = (silu (hid (X t) W1 B1 k) : EReal) := fun k => by
    rw [act_at, hp, ← EReal.coe_neg, Ideal.exp_coe, ← EReal.coe_one, ← EReal.coe_add, div_coe _ _ (by positivity),
      ← EReal.coe_mul]
    rfl
  rw [logits_at, hb2]
  simp only [ha, hw2, ← EReal.coe_mul, ← coe_sum, ← EReal.coe_add]
  rfl

section rows

variable {l : FVec Ideal S32768x64 .f32} {L : Fin 32768 → Fin 64 → ℝ} (hl : ∀ t e, l (ix2 t e) = ext (L t) e)
include hl

/-- The exponentials of the top two. -/
theorem exp2_real (t : Fin 32768) (k : Fin 2) :
    exp2 (topV l) (ix2 t k) = (Real.exp (L t (![top1 (L t), top2 (L t)] k) - L t (top1 (L t))) : EReal) := by
  have hm : (Finset.univ : Finset (Fin 2)).fold max ⊥ (fun j => topV l (ix2 t j)) = (L t (top1 (L t)) : EReal) := by
    have h0 := topV_real l t (L t) (hl t) 0
    have h1 := topV_real l t (L t) (hl t) 1
    have hle : ext (L t) (top2 (L t)) ≤ ext (L t) (top1 (L t)) := EReal.coe_le_coe_iff.mpr (le_top1 (L t) _)
    apply le_antisymm
    · refine (Finset.fold_max_le _).mpr ⟨bot_le, fun j _ => ?_⟩
      fin_cases j
      · exact h0.le
      · exact h1.le.trans hle
    · exact (Finset.le_fold_max _).mpr (Or.inr ⟨0, Finset.mem_univ _, h0.ge⟩)
  rw [exp2_at, hm, topV_real l t (L t) (hl t) k, max_eq_right bot_le]
  show Ideal.exp ((L t (![top1 (L t), top2 (L t)] k) : EReal) - (L t (top1 (L t)) : EReal)) = _
  rw [← EReal.coe_sub, Ideal.exp_coe]

/-- The first weight. -/
theorem soft2_real0 (t : Fin 32768) : soft2 (topV l) (ix2 t 0) = (weight1 (L t) : EReal) := by
  rw [soft2_at, Fin.sum_univ_two, exp2_real hl, exp2_real hl, ← EReal.coe_add, div_coe _ _ (by positivity)]
  simp [weight1, ratio]

/-- The second weight. -/
theorem soft2_real1 (t : Fin 32768) : soft2 (topV l) (ix2 t 1) = (weight2 (L t) : EReal) := by
  rw [soft2_at, Fin.sum_univ_two, exp2_real hl, exp2_real hl, ← EReal.coe_add, div_coe _ _ (by positivity)]
  simp [weight2, ratio, div_eq_mul_inv]

/-- The exponentials of the logits. -/
theorem exp64_real (t : Fin 32768) (e : Fin 64) :
    exp64 l (ix2 t e) = (Real.exp (L t e - L t (top1 (L t))) : EReal) := by
  have hrow : (fun j => l (ix2 t j)) = ext (L t) := funext (hl t)
  rw [exp64_at, hrow, fold_max_first, hl, max_eq_right bot_le]
  show Ideal.exp ((L t e : EReal) - (L t (top1 (L t)) : EReal)) = _
  rw [← EReal.coe_sub, Ideal.exp_coe]

/-- The probabilities. -/
theorem soft64_real (t : Fin 32768) (e : Fin 64) : soft64 l (ix2 t e) = (prob (L t) e : EReal) := by
  rw [soft64_at]
  simp only [exp64_real hl, ← coe_sum]
  have hm := mass_pos (L t)
  unfold mass at hm
  rw [div_coe _ _ hm]
  unfold prob mass
  rw [mul_one_div]

/-- The one-hot rows. -/
theorem hot_real (t : Fin 32768) (e : Fin 64) :
    hot (F := Ideal) (best l) (ix2 t e) = (picked (L t) e : EReal) := by
  rw [hot_at, best_real l t (L t) (hl t)]
  unfold picked
  by_cases h : e = top1 (L t)
  · rw [← h, if_pos rfl]
    have hc : IntOp.cmpi .eq (BitVec.ofNat 32 e.val) (BitVec.ofNat 32 e.val) = 1#1 := by simp [IntOp.cmpi]
    rw [hc]
    show (((1#1 : BitVec 1).toNat : ℝ) : EReal) = _
    simp
  · rw [if_neg h]
    have hc : IntOp.cmpi .eq (BitVec.ofNat 32 (top1 (L t)).val) (BitVec.ofNat 32 e.val) = 0#1 := by
      have hne : BitVec.ofNat 32 (top1 (L t)).val ≠ BitVec.ofNat 32 e.val := fun hh => h ((expert_inj _ _).mp hh).symm
      simp [IntOp.cmpi, beq_eq_false_iff_ne.mpr hne]
    rw [hc]
    show (((0#1 : BitVec 1).toNat : ℝ) : EReal) = _
    simp

/-- The loss. -/
theorem loss_real (j : S_.Idx) : loss l j = (lossOf L : EReal) := by
  rw [loss_at]
  simp only [meanCol_at, hot_real hl, soft64_real hl, bits_32768, bits_64, ← coe_sum]
  simp only [div_coe _ (32768 : ℝ) (by norm_num), ← EReal.coe_mul, ← coe_sum]
  rfl

end rows

end Cert.Router.Ref

end
-- ==== Proof.Finite.lean ====
/-
  The precondition: the facts its function states of its shapes, and what it says — every entry of every argument is a
  real number.
-/
module

public import proofs.«01_k».proof.Defs
public import Idealize.ShloMosaic.Lib.ReduceAll

@[expose] public section

noncomputable section

namespace Cert.Router.Finite

open Cert.Pre_finite_args Idealize.ShloMosaic

/-- The relations between shapes that the precondition's operations take. -/
theorem shapes : Facts where
  bcast_S_S32768x768 := by decide
  reducesTo_S32768x768_S_d0_1 := by decide
  h_S_ := by decide
  bcast_S_S768x384 := by decide
  reducesTo_S768x384_S_d0_1 := by decide
  bcast_S_S384 := by decide
  reducesTo_S384_S_d0 := by decide
  bcast_S_S384x64 := by decide
  reducesTo_S384x64_S_d0_1 := by decide
  bcast_S_S64 := by decide
  reducesTo_S64_S_d0 := by decide

/-- The bound the precondition compares with is infinite. -/
theorem bits_top : Ideal.ofBits .f32 0x7F800000#32 = ⊤ := by simp [Ideal.ofBits, Ideal.ieee]

/-- A scalar has one place. -/
instance scalar_subsingleton : Subsingleton S_.Idx := ⟨fun i j => funext fun a => a.elim0⟩

/-- An array whose absolute values all pass the comparison holds real numbers. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : x i = ((x i).toReal : EReal) := by
  have hi := Host.reduce_andi_all _ _ hr hu j h i
  have hlt : max (x i) (-(x i)) < (⊤ : EReal) := by
    rw [← bits_top]
    by_contra hn
    have h0 : BitVec.ofBool (decide (max (x i) (-(x i)) < Ideal.ofBits .f32 0x7F800000#32)) = 1#1 := hi
    rw [decide_eq_false hn] at h0
    exact absurd h0 (by decide)
  obtain ⟨h1, h2⟩ := max_lt_iff.mp hlt
  refine (EReal.coe_toReal h1.ne fun hbot => ?_).symm
  rw [hbot] at h2
  exact absurd h2 (by simp)

/-- The precondition makes every entry of every argument a real number. -/
theorem real_args [Facts] (x : FVec Ideal S32768x768 .f32) (w1 : FVec Ideal S768x384 .f32) (b1 : FVec Ideal S384 .f32)
    (w2 : FVec Ideal S384x64 .f32) (b2 : FVec Ideal S64 .f32) (h : fn (F := Ideal) x w1 b1 w2 b2 = fun _ => 1#1) :
    (∀ i, x i = ((x i).toReal : EReal)) ∧ (∀ i, w1 i = ((w1 i).toReal : EReal)) ∧ (∀ i, b1 i = ((b1 i).toReal : EReal))
      ∧ (∀ i, w2 i = ((w2 i).toReal : EReal)) ∧ (∀ i, b2 i = ((b2 i).toReal : EReal)) := by
  have h := congrFun h (fun a => a.elim0)
  unfold fn fn_part1 at h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨real_of_all x _ _ _ _ h0, real_of_all w1 _ _ _ _ h1, real_of_all b1 _ _ _ _ h2, real_of_all w2 _ _ _ _ h3,
    real_of_all b2 _ _ _ _ h4⟩

end Cert.Router.Finite

end
-- ==== Proof.Equal.lean ====
/-
  The kernel's results and the reference's, from the same finite arguments, are equal.
-/
module

public import proofs.«01_k».proof.Proof.Results
public import proofs.«01_k».proof.Proof.RefMath
public import proofs.«01_k».proof.Proof.Finite

@[expose] public section

noncomputable section

namespace Cert.Router

open Idealize.ShloMosaic Idealize.ShloMosaic.TcCoe

/-- Arrays of pairs that agree at every token and place are equal. -/
theorem pairs_ext {α : Type} (f g : (⟨2, ![32768, 2]⟩ : Shape).Idx → α) (h : ∀ t k, f (ix2 t k) = g (ix2 t k)) : f = g := by
  funext i
  have hi : i = ix2 (i 0 : Fin 32768) (i 1 : Fin 2) := by
    funext a
    fin_cases a <;> rfl
  rw [hi]
  exact h _ _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From the same finite arguments the three results are equal. -/
theorem results_eq [Cert.Pre_finite_args.Facts] (c : Dev Cert.KernelIdeal.nD)
    (hpre : Cert.Pre_finite_args.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = fun _ => 1#1)
    (e0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Ref.soft2 (Ref.topV (Ref.lg m' c)) = outW m c ∧ Ref.topI (Ref.lg m' c) = outI m c
      ∧ Ref.loss (Ref.lg m' c) = outA m c := by
  obtain ⟨p0, p1, p2, p3, p4⟩ := Finite.real_args _ _ _ _ _ hpre
  have hl := Ref.logits_real (fun t d => (congrFun e0 (ix2 t d)).trans (p0 (ix2 t d)))
    (fun d k => (congrFun e1 (ix2 d k)).trans (p1 (ix2 d k))) (fun k => (congrFun e2 (ix1 k)).trans (p2 (ix1 k)))
    (fun k e => (congrFun e3 (ix2 k e)).trans (p3 (ix2 k e))) (fun e => (congrFun e4 (ix1 e)).trans (p4 (ix1 e)))
  have hW := outW_real (m := m) (c := c) (fun t d => p0 (ix2 t d)) (fun d k => p1 (ix2 d k)) (fun k => p2 (ix1 k))
    (fun k e => p3 (ix2 k e)) (fun e => p4 (ix1 e))
  have hI := outI_real (m := m) (c := c) (fun t d => p0 (ix2 t d)) (fun d k => p1 (ix2 d k)) (fun k => p2 (ix1 k))
    (fun k e => p3 (ix2 k e)) (fun e => p4 (ix1 e))
  have hA := outA_real (m := m) (c := c) (fun t d => p0 (ix2 t d)) (fun d k => p1 (ix2 d k)) (fun k => p2 (ix1 k))
    (fun k e => p3 (ix2 k e)) (fun e => p4 (ix1 e))
  refine ⟨?_, ?_, ?_⟩
  · refine pairs_ext _ _ fun t k => ?_
    rw [hW]
    fin_cases k
    · exact Ref.soft2_real0 hl t
    · exact Ref.soft2_real1 hl t
  · refine pairs_ext _ _ fun t k => ?_
    rw [hI]
    exact Ref.topI_real _ t _ (hl t) k
  · funext j
    rw [hA]
    exact Ref.loss_real hl j

end Cert.Router

end
-- ==== Proof.lean ====
/-
  The certificate's proof: the kernel's and the reference's frames, the named mask, and the equality over the extended
  reals of the three results, from the modules of Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The five claims: the three programs end quietly, the named mask is the kernel's constant, and over the extended
    reals the kernel and the reference give equal results from finite arguments. -/
theorem claim : Cert.Claim := ⟨Cert.Kernel.Gen.facts, Cert.KernelIdeal.Gen.facts, Cert.ReferenceIdeal.Gen.facts,
  Cert.Router.Finite.shapes,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2.2.2, Idealize.ShloMosaic.sem_eq_zero_of_no_sems (by decide) r.2⟩)
    (Cert.Router.Ref.run (F := Ideal) m ρ),
  fun m ρ _ => (θ_run Cert.ReferenceIdeal.defs _ _).mono
    (fun r h => ⟨fun c => (h c).2.2.2, Idealize.ShloMosaic.sem_eq_zero_of_no_sems (by decide) r.2⟩)
    (Cert.Router.Ref.run (F := Ideal) m ρ),
  IdealRules.named_const.statement Cert.KernelIdeal.κ "mask" .f32 0xF149F2CA#32 ⊥ rfl,
  fun m g m' g' hpre hargs => ⟨Cert.Router.outW m, Cert.Router.outI m, Cert.Router.outA m, Cert.Router.kernel_run m g,
    (θ_run Cert.ReferenceIdeal.defs _ _).mono (fun r h c => by
      obtain ⟨e0, e1, e2, e3, e4⟩ := hargs c
      haveI := Cert.Router.Finite.shapes
      obtain ⟨hW, hI, hA⟩ := Cert.Router.results_eq  m m' c (hpre c) e0 e1 e2 e3 e4
      obtain ⟨h1, h2, h3, h4⟩ := h c
      exact ⟨h1.trans hW, h2.trans hI, h3.trans hA, h4⟩)
      (Cert.Router.Ref.run (F := Ideal) m' g')⟩⟩

end Cert.Proof

end
